-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5000x81 : Shape := ⟨2, ![5000, 81]⟩
abbrev S5000x324 : Shape := ⟨2, ![5000, 324]⟩
abbrev S5000x4 : Shape := ⟨2, ![5000, 4]⟩
abbrev S5000x80 : Shape := ⟨2, ![5000, 80]⟩
abbrev S5000 : Shape := ⟨1, ![5000]⟩
abbrev S5000x1 : Shape := ⟨2, ![5000, 1]⟩
abbrev S16x25000 : Shape := ⟨2, ![16, 25000]⟩
abbrev S16x1000 : Shape := ⟨2, ![16, 1000]⟩
abbrev S16 : Shape := ⟨1, ![16]⟩
abbrev S16x1 : Shape := ⟨2, ![16, 1]⟩
abbrev S_ : Shape := ⟨0, ![]⟩
abbrev S16000 : Shape := ⟨1, ![16000]⟩
abbrev S1000 : Shape := ⟨1, ![1000]⟩
abbrev S1000x1 : Shape := ⟨2, ![1000, 1]⟩
abbrev S5000x328 : Shape := ⟨2, ![5000, 328]⟩
abbrev S1x1000 : Shape := ⟨2, ![1, 1000]⟩
abbrev S1000x4 : Shape := ⟨2, ![1000, 4]⟩
abbrev S1000x1000 : Shape := ⟨2, ![1000, 1000]⟩
abbrev S1000x328 : Shape := ⟨2, ![1000, 328]⟩
abbrev S1000x324 : Shape := ⟨2, ![1000, 324]⟩
abbrev S324x4 : Shape := ⟨2, ![324, 4]⟩
abbrev S1000x5 : Shape := ⟨2, ![1000, 5]⟩
abbrev S5x1000 : Shape := ⟨2, ![5, 1000]⟩
abbrev S1x1x1000 : Shape := ⟨3, ![1, 1, 1000]⟩
abbrev S1 : Shape := ⟨1, ![1]⟩
abbrev S1x1x1 : Shape := ⟨3, ![1, 1, 1]⟩
abbrev S100 : Shape := ⟨1, ![100]⟩
abbrev S100x1 : Shape := ⟨2, ![100, 1]⟩
abbrev S100x4 : Shape := ⟨2, ![100, 4]⟩
abbrev S100x6 : Shape := ⟨2, ![100, 6]⟩

abbrev nBuf : Space → Nat
  | .hbm => 96
  | .vmem => 8
  | .smem => 0
  | _ => 0

abbrev bufTy : (tb : Table) → Fin (tcTables nBuf tb) → BufTy
  | .hbm, ⟨0, _⟩ => ⟨S5000x81, .f32⟩
  | .hbm, ⟨1, _⟩ => ⟨S5000x324, .f32⟩
  | .hbm, ⟨2, _⟩ => ⟨S5000x4, .f32⟩
  | .hbm, ⟨3, _⟩ => ⟨S5000x80, .f32⟩
  | .hbm, ⟨4, _⟩ => ⟨S16x25000, .f32⟩
  | .hbm, ⟨5, _⟩ => ⟨S16x1000, .f32⟩
  | .hbm, ⟨6, _⟩ => ⟨S16x1000, .i32⟩
  | .hbm, ⟨7, _⟩ => ⟨S16, .i32⟩
  | .hbm, ⟨8, _⟩ => ⟨S16x1, .i32⟩
  | .hbm, ⟨9, _⟩ => ⟨S_, .i32⟩
  | .hbm, ⟨10, _⟩ => ⟨S16x1, .i32⟩
  | .hbm, ⟨11, _⟩ => ⟨S16x1, .i32⟩
  | .hbm, ⟨12, _⟩ => ⟨S16x1000, .i32⟩
  | .hbm, ⟨13, _⟩ => ⟨S16x1000, .i32⟩
  | .hbm, ⟨14, _⟩ => ⟨S16000, .f32⟩
  | .hbm, ⟨15, _⟩ => ⟨S1000, .f32⟩
  | .hbm, ⟨16, _⟩ => ⟨S1000, .i32⟩
  | .hbm, ⟨17, _⟩ => ⟨S16000, .i32⟩
  | .hbm, ⟨18, _⟩ => ⟨S_, .i32⟩
  | .hbm, ⟨19, _⟩ => ⟨S1000, .i32⟩
  | .hbm, ⟨20, _⟩ => ⟨S1000, .i1⟩
  | .hbm, ⟨21, _⟩ => ⟨S_, .i32⟩
  | .hbm, ⟨22, _⟩ => ⟨S1000, .i32⟩
  | .hbm, ⟨23, _⟩ => ⟨S1000, .i32⟩
  | .hbm, ⟨24, _⟩ => ⟨S1000, .i32⟩
  | .hbm, ⟨25, _⟩ => ⟨S1000x1, .i32⟩
  | .hbm, ⟨26, _⟩ => ⟨S1000, .i32⟩
  | .hbm, ⟨27, _⟩ => ⟨S_, .f32⟩
  | .hbm, ⟨28, _⟩ => ⟨S1000, .f32⟩
  | .hbm, ⟨29, _⟩ => ⟨S1000, .i1⟩
  | .hbm, ⟨30, _⟩ => ⟨S_, .f32⟩
  | .hbm, ⟨31, _⟩ => ⟨S_, .f32⟩
  | .hbm, ⟨32, _⟩ => ⟨S1000, .f32⟩
  | .hbm, ⟨33, _⟩ => ⟨S1000, .f32⟩
  | .hbm, ⟨34, _⟩ => ⟨S5000x328, .f32⟩
  | .hbm, ⟨35, _⟩ => ⟨S1000x1, .i32⟩
  | .hbm, ⟨36, _⟩ => ⟨S1x1000, .f32⟩
  | .hbm, ⟨37, _⟩ => ⟨S1000x4, .f32⟩
  | .hbm, ⟨38, _⟩ => ⟨S1x1000, .f32⟩
  | .hbm, ⟨39, _⟩ => ⟨S1000, .f32⟩
  | .hbm, ⟨40, _⟩ => ⟨S_, .f32⟩
  | .hbm, ⟨41, _⟩ => ⟨S1000, .f32⟩
  | .hbm, ⟨42, _⟩ => ⟨S1000, .i1⟩
  | .hbm, ⟨43, _⟩ => ⟨S_, .f32⟩
  | .hbm, ⟨44, _⟩ => ⟨S_, .f32⟩
  | .hbm, ⟨45, _⟩ => ⟨S1000, .f32⟩
  | .hbm, ⟨46, _⟩ => ⟨S1000, .f32⟩
  | .hbm, ⟨47, _⟩ => ⟨S100, .f32⟩
  | .hbm, ⟨48, _⟩ => ⟨S100, .i32⟩
  | .hbm, ⟨49, _⟩ => ⟨S_, .i32⟩
  | .hbm, ⟨50, _⟩ => ⟨S100, .i32⟩
  | .hbm, ⟨51, _⟩ => ⟨S100, .i1⟩
  | .hbm, ⟨52, _⟩ => ⟨S_, .i32⟩
  | .hbm, ⟨53, _⟩ => ⟨S100, .i32⟩
  | .hbm, ⟨54, _⟩ => ⟨S100, .i32⟩
  | .hbm, ⟨55, _⟩ => ⟨S100, .i32⟩
  | .hbm, ⟨56, _⟩ => ⟨S100x1, .i32⟩
  | .hbm, ⟨57, _⟩ => ⟨S100x4, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1000, .i32⟩
  | .hbm, ⟨65, _⟩ => ⟨S1000, .i32⟩
  | .hbm, ⟨66, _⟩ => ⟨S_, .i32⟩
  | .hbm, ⟨67, _⟩ => ⟨S1000, .i32⟩
  | .hbm, ⟨68, _⟩ => ⟨S1000, .i1⟩
  | .hbm, ⟨69, _⟩ => ⟨S_, .i32⟩
  | .hbm, ⟨70, _⟩ => ⟨S1000, .i32⟩
  | .hbm, ⟨71, _⟩ => ⟨S1000, .i1⟩
  | .hbm, ⟨72, _⟩ => ⟨S_, .i32⟩
  | .hbm, ⟨73, _⟩ => ⟨S_, .i1⟩
  | .hbm, ⟨74, _⟩ => ⟨S1000, .i1⟩
  | .hbm, ⟨75, _⟩ => ⟨S1000, .i1⟩
  | .hbm, ⟨76, _⟩ => ⟨S1000, .i1⟩
  | .hbm, ⟨77, _⟩ => ⟨S1000, .i32⟩
  | .hbm, ⟨78, _⟩ => ⟨S1000, .i32⟩
  | .hbm, ⟨79, _⟩ => ⟨S1000, .i32⟩
  | .hbm, ⟨80, _⟩ => ⟨S_, .i32⟩
  | .hbm, ⟨81, _⟩ => ⟨S100, .i32⟩
  | .hbm, ⟨82, _⟩ => ⟨S100, .i1⟩
  | .hbm, ⟨83, _⟩ => ⟨S_, .i32⟩
  | .hbm, ⟨84, _⟩ => ⟨S100, .i32⟩
  | .hbm, ⟨85, _⟩ => ⟨S100, .i32⟩
  | .hbm, ⟨86, _⟩ => ⟨S100, .i32⟩
  | .hbm, ⟨87, _⟩ => ⟨S100x1, .i32⟩
  | .hbm, ⟨88, _⟩ => ⟨S100, .i32⟩
  | .hbm, ⟨89, _⟩ => ⟨S_, .i32⟩
  | .hbm, ⟨90, _⟩ => ⟨S100, .i32⟩
  | .hbm, ⟨91, _⟩ => ⟨S100, .i32⟩
  | .hbm, ⟨92, _⟩ => ⟨S100, .f32⟩
  | .hbm, ⟨93, _⟩ => ⟨S100x1, .f32⟩
  | .hbm, ⟨94, _⟩ => ⟨S100x1, .f32⟩
  | .hbm, ⟨95, _⟩ => ⟨S100x6, .f32⟩
  | .local _ .vmem, ⟨0, _⟩ => ⟨S5000x81, .f32⟩
  | .local _ .vmem, ⟨1, _⟩ => ⟨S5000x80, .f32⟩
  | .local _ .vmem, ⟨2, _⟩ => ⟨S5000x328, .f32⟩
  | .local _ .vmem, ⟨3, _⟩ => ⟨S1000x1, .i32⟩
  | .local _ .vmem, ⟨4, _⟩ => ⟨S1x1000, .f32⟩
  | .local _ .vmem, ⟨5, _⟩ => ⟨S1000x4, .f32⟩
  | .local _ .vmem, ⟨6, _⟩ => ⟨S1x1000, .f32⟩
  | .local _ .vmem, ⟨7, _⟩ => ⟨S1000x1000, .f32⟩
  | _, _ => ⟨S5000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_values : Ref sig .tc := ⟨.hbm, 5, rfl⟩
abbrev main_indices : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_values_0 : Ref sig .tc := ⟨.hbm, 15, rfl⟩
abbrev main_indices_1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_call1_v0 : Ref sig .tc := ⟨.hbm, 44, rfl⟩
abbrev main_call1_v1 : Ref sig .tc := ⟨.hbm, 45, rfl⟩
abbrev main_v27 : Ref sig .tc := ⟨.hbm, 46, rfl⟩
abbrev main_values_7 : Ref sig .tc := ⟨.hbm, 47, rfl⟩
abbrev main_indices_8 : Ref sig .tc := ⟨.hbm, 48, rfl⟩
abbrev main_c_9 : Ref sig .tc := ⟨.hbm, 49, rfl⟩
abbrev main_v28 : Ref sig .tc := ⟨.hbm, 50, rfl⟩
abbrev main_v29 : Ref sig .tc := ⟨.hbm, 51, rfl⟩
abbrev main_c_10 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_11 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v35 : Ref sig .tc := ⟨.hbm, 79, rfl⟩
abbrev main_c_12 : Ref sig .tc := ⟨.hbm, 80, rfl⟩
abbrev main_v36 : Ref sig .tc := ⟨.hbm, 81, rfl⟩
abbrev main_v37 : Ref sig .tc := ⟨.hbm, 82, rfl⟩
abbrev main_c_13 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_c_14 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_scratch0 : Ref sig .tc := ⟨.vmem, 7, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc1_sem3_0 : DmaSem sig := 5
abbrev cc1_sem4_0 : DmaSem sig := 6

abbrev nD : Nat := 1
abbrev τ : Topo := Topo.v7x

variable {F : FTy → Type} [FloatOps F]

abbrev grid0 : Pipeline.Grid := .none

abbrev stage0_0 : Fin 1 → Memref sig .tc .vmem S5000x81 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5000x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

@[reducible] def k1_t1_loop : Scf.Loop 32 :=
  let c0_i32_69 : BitVec 32 := 0#32
  let c1000_i32_70 : BitVec 32 := 1000#32
  let v276 : BitVec 32 := Scalar.addi c0_i32_69 c1000_i32_70
  let c1_i32_71 : BitVec 32 := 1#32
  ⟨c0_i32_69, v276, c1_i32_71⟩
def k1_off1 (k1_t1 : Fin k1_t1_loop.trips) : Fin 2 → Nat :=
  let c0_i32_69 : BitVec 32 := 0#32
  let c1_i32_71 : BitVec 32 := 1#32
  let arg6 : BitVec 32 := Scf.iv c0_i32_69 c1_i32_71 k1_t1
  let v279 : Index := Scalar.indexCast arg6
  let c0_75 : Index := 0#32
  ![v279.toNat, 0]
abbrev stage1_0 : Fin 1 → Memref sig .tc .vmem S5000x328 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1000x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1000x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S5000x81 : Shape := ⟨2, ![5000, 81]⟩
abbrev S5000x324 : Shape := ⟨2, ![5000, 324]⟩
abbrev S5000x4 : Shape := ⟨2, ![5000, 4]⟩
abbrev S5000x1 : Shape := ⟨2, ![5000, 1]⟩
abbrev S5000 : Shape := ⟨1, ![5000]⟩
abbrev S_ : Shape := ⟨0, ![]⟩
abbrev S5000x81x4 : Shape := ⟨3, ![5000, 81, 4]⟩
abbrev S5000x81x1 : Shape := ⟨3, ![5000, 81, 1]⟩
abbrev S5000x80 : Shape := ⟨2, ![5000, 80]⟩
abbrev S5000x80x4 : Shape := ⟨3, ![5000, 80, 4]⟩
abbrev S400000 : Shape := ⟨1, ![400000]⟩
abbrev S1000 : Shape := ⟨1, ![1000]⟩
abbrev S400000x4 : Shape := ⟨2, ![400000, 4]⟩
abbrev S1000x1 : Shape := ⟨2, ![1000, 1]⟩
abbrev S1000x4 : Shape := ⟨2, ![1000, 4]⟩
abbrev S1000x2 : Shape := ⟨2, ![1000, 2]⟩
abbrev S1000x1x2 : Shape := ⟨3, ![1000, 1, 2]⟩
abbrev S1x1000x2 : Shape := ⟨3, ![1, 1000, 2]⟩
abbrev S1000x1000x2 : Shape := ⟨3, ![1000, 1000, 2]⟩
abbrev S1000x1000x1 : Shape := ⟨3, ![1000, 1000, 1]⟩
abbrev S1000x1000 : Shape := ⟨2, ![1000, 1000]⟩
abbrev S1x1000 : Shape := ⟨2, ![1, 1000]⟩
abbrev S1 : Shape := ⟨1, ![1]⟩
abbrev S100 : Shape := ⟨1, ![100]⟩
abbrev S100x1 : Shape := ⟨2, ![100, 1]⟩
abbrev S100x4 : Shape := ⟨2, ![100, 4]⟩
abbrev S100x6 : Shape := ⟨2, ![100, 6]⟩

abbrev nBuf : Space → Nat
  | .hbm => 337
  | .vmem => 0
  | .smem => 0
  | _ => 0

abbrev hbmTy0_0 (i : Nat) : BufTy := match i % 128 with
  | 0 => ⟨S5000x81, .f32⟩
  | 1 => ⟨S5000x324, .f32⟩
  | 2 => ⟨S5000x4, .f32⟩
  | 3 => ⟨S5000x1, .f32⟩
  | 4 => ⟨S5000, .f32⟩
  | 5 => ⟨S5000x1, .f32⟩
  | 6 => ⟨S5000, .f32⟩
  | 7 => ⟨S5000, .f32⟩
  | 8 => ⟨S5000x1, .f32⟩
  | 9 => ⟨S5000, .f32⟩
  | 10 => ⟨S5000x1, .f32⟩
  | 11 => ⟨S5000, .f32⟩
  | 12 => ⟨S5000, .f32⟩
  | 13 => ⟨S5000x1, .f32⟩
  | 14 => ⟨S5000, .f32⟩
  | 15 => ⟨S_, .f32⟩
  | 16 => ⟨S5000, .f32⟩
  | 17 => ⟨S5000, .f32⟩
  | 18 => ⟨S5000, .f32⟩
  | 19 => ⟨S5000x1, .f32⟩
  | 20 => ⟨S5000, .f32⟩
  | 21 => ⟨S_, .f32⟩
  | 22 => ⟨S5000, .f32⟩
  | 23 => ⟨S5000, .f32⟩
  | 24 => ⟨S5000, .f32⟩
  | 25 => ⟨S5000x81x4, .f32⟩
  | 26 => ⟨S5000x81x1, .f32⟩
  | 27 => ⟨S5000x81, .f32⟩
  | 28 => ⟨S_, .f32⟩
  | 29 => ⟨S5000x81, .f32⟩
  | 30 => ⟨S5000x81, .f32⟩
  | 31 => ⟨S5000x81x1, .f32⟩
  | 32 => ⟨S5000x81, .f32⟩
  | 33 => ⟨S_, .f32⟩
  | 34 => ⟨S5000x81, .f32⟩
  | 35 => ⟨S5000x81, .f32⟩
  | 36 => ⟨S5000x81x1, .f32⟩
  | 37 => ⟨S5000x81, .f32⟩
  | 38 => ⟨S_, .f32⟩
  | 39 => ⟨S5000x81, .f32⟩
  | 40 => ⟨S5000x81, .f32⟩
  | 41 => ⟨S_, .f32⟩
  | 42 => ⟨S5000x81, .f32⟩
  | 43 => ⟨S5000x81, .f32⟩
  | 44 => ⟨S5000x81x1, .f32⟩
  | 45 => ⟨S5000x81, .f32⟩
  | 46 => ⟨S_, .f32⟩
  | 47 => ⟨S5000x81, .f32⟩
  | 48 => ⟨S5000x81, .f32⟩
  | 49 => ⟨S_, .f32⟩
  | 50 => ⟨S5000x81, .f32⟩
  | 51 => ⟨S5000x81, .f32⟩
  | 52 => ⟨S5000x1, .f32⟩
  | 53 => ⟨S5000x81, .f32⟩
  | 54 => ⟨S5000x81, .f32⟩
  | 55 => ⟨S5000x1, .f32⟩
  | 56 => ⟨S5000x81, .f32⟩
  | 57 => ⟨S5000x81, .f32⟩
  | 58 => ⟨S5000x1, .f32⟩
  | 59 => ⟨S5000x81, .f32⟩
  | 60 => ⟨S5000x81, .f32⟩
  | 61 => ⟨S5000x1, .f32⟩
  | 62 => ⟨S5000x81, .f32⟩
  | 63 => ⟨S5000x81, .f32⟩
  | 64 => ⟨S5000x81, .f32⟩
  | 65 => ⟨S5000x1, .f32⟩
  | 66 => ⟨S5000x81, .f32⟩
  | 67 => ⟨S5000x81, .f32⟩
  | 68 => ⟨S5000x81, .f32⟩
  | 69 => ⟨S5000x1, .f32⟩
  | 70 => ⟨S5000x81, .f32⟩
  | 71 => ⟨S5000x81, .f32⟩
  | 72 => ⟨S_, .f32⟩
  | 73 => ⟨S5000x81, .f32⟩
  | 74 => ⟨S5000x81, .f32⟩
  | 75 => ⟨S5000x81, .f32⟩
  | 76 => ⟨S_, .f32⟩
  | 77 => ⟨S5000x81, .f32⟩
  | 78 => ⟨S5000x81, .f32⟩
  | 79 => ⟨S5000x81, .f32⟩
  | 80 => ⟨S_, .f32⟩
  | 81 => ⟨S5000x81, .f32⟩
  | 82 => ⟨S5000x81, .f32⟩
  | 83 => ⟨S5000x81, .f32⟩
  | 84 => ⟨S_, .f32⟩
  | 85 => ⟨S5000x81, .f32⟩
  | 86 => ⟨S5000x81, .f32⟩
  | 87 => ⟨S5000x81, .f32⟩
  | 88 => ⟨S5000x81x1, .f32⟩
  | 89 => ⟨S5000x81x1, .f32⟩
  | 90 => ⟨S5000x81x1, .f32⟩
  | 91 => ⟨S5000x81x1, .f32⟩
  | 92 => ⟨S5000x81x4, .f32⟩
  | 93 => ⟨S5000x81x1, .f32⟩
  | 94 => ⟨S5000x81, .f32⟩
  | 95 => ⟨S_, .f32⟩
  | 96 => ⟨S_, .f32⟩
  | 97 => ⟨S_, .f32⟩
  | 98 => ⟨S5000x81, .f32⟩
  | 99 => ⟨S5000x81, .f32⟩
  | 100 => ⟨S_, .f32⟩
  | 101 => ⟨S5000x81, .f32⟩
  | 102 => ⟨S5000x81, .f32⟩
  | 103 => ⟨S5000x81x1, .f32⟩
  | 104 => ⟨S5000x81, .f32⟩
  | 105 => ⟨S_, .f32⟩
  | 106 => ⟨S_, .f32⟩
  | 107 => ⟨S_, .f32⟩
  | 108 => ⟨S5000x81, .f32⟩
  | 109 => ⟨S5000x81, .f32⟩
  | 110 => ⟨S_, .f32⟩
  | 111 => ⟨S5000x81, .f32⟩
  | 112 => ⟨S5000x81, .f32⟩
  | 113 => ⟨S5000x81x1, .f32⟩
  | 114 => ⟨S5000x81, .f32⟩
  | 115 => ⟨S_, .f32⟩
  | 116 => ⟨S_, .f32⟩
  | 117 => ⟨S_, .f32⟩
  | 118 => ⟨S5000x81, .f32⟩
  | 119 => ⟨S5000x81, .f32⟩
  | 120 => ⟨S_, .f32⟩
  | 121 => ⟨S5000x81, .f32⟩
  | 122 => ⟨S5000x81, .f32⟩
  | 123 => ⟨S5000x81x1, .f32⟩
  | 124 => ⟨S5000x81, .f32⟩
  | 125 => ⟨S_, .f32⟩
  | 126 => ⟨S_, .f32⟩
  | 127 => ⟨S_, .f32⟩
  | _ => ⟨S5000x81, .f32⟩

abbrev hbmTy0_1 (i : Nat) : BufTy := match i % 128 with
  | 0 => ⟨S5000x81, .f32⟩
  | 1 => ⟨S5000x81, .f32⟩
  | 2 => ⟨S_, .f32⟩
  | 3 => ⟨S5000x81, .f32⟩
  | 4 => ⟨S5000x81, .f32⟩
  | 5 => ⟨S5000x81x1, .f32⟩
  | 6 => ⟨S5000x81x1, .f32⟩
  | 7 => ⟨S5000x81x1, .f32⟩
  | 8 => ⟨S5000x81x1, .f32⟩
  | 9 => ⟨S5000x81x4, .f32⟩
  | 10 => ⟨S_, .f32⟩
  | 11 => ⟨S5000, .f32⟩
  | 12 => ⟨S_, .f32⟩
  | 13 => ⟨S5000, .f32⟩
  | 14 => ⟨S5000, .f32⟩
  | 15 => ⟨S5000x1, .f32⟩
  | 16 => ⟨S5000x81, .f32⟩
  | 17 => ⟨S5000x81, .f32⟩
  | 18 => ⟨S5000x81, .f32⟩
  | 19 => ⟨S_, .f32⟩
  | 20 => ⟨S5000, .f32⟩
  | 21 => ⟨S5000x1, .f32⟩
  | 22 => ⟨S5000x81, .f32⟩
  | 23 => ⟨S5000x81, .f32⟩
  | 24 => ⟨S5000x80, .f32⟩
  | 25 => ⟨S5000x80x4, .f32⟩
  | 26 => ⟨S400000, .f32⟩
  | 27 => ⟨S_, .f32⟩
  | 28 => ⟨S400000, .f32⟩
  | 29 => ⟨S400000, .i1⟩
  | 30 => ⟨S_, .f32⟩
  | 31 => ⟨S_, .f32⟩
  | 32 => ⟨S400000, .f32⟩
  | 33 => ⟨S400000, .f32⟩
  | 34 => ⟨S1000, .f32⟩
  | 35 => ⟨S1000, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S1000, .i32⟩
  | 43 => ⟨S1000, .i32⟩
  | 44 => ⟨S_, .i32⟩
  | 45 => ⟨S1000, .i32⟩
  | 46 => ⟨S1000, .i1⟩
  | 47 => ⟨S_, .i32⟩
  | 48 => ⟨S1000, .i32⟩
  | 49 => ⟨S1000, .i1⟩
  | 50 => ⟨S_, .i32⟩
  | 51 => ⟨S_, .i1⟩
  | 52 => ⟨S1000, .i1⟩
  | 53 => ⟨S1000, .i1⟩
  | 54 => ⟨S1000, .i1⟩
  | 55 => ⟨S1000, .i32⟩
  | 56 => ⟨S1000, .i32⟩
  | 57 => ⟨S1000, .i32⟩
  | 58 => ⟨S400000x4, .f32⟩
  | 59 => ⟨S_, .i32⟩
  | 60 => ⟨S1000, .i32⟩
  | 61 => ⟨S1000, .i1⟩
  | 62 => ⟨S_, .i32⟩
  | 63 => ⟨S1000, .i32⟩
  | 64 => ⟨S1000, .i32⟩
  | 65 => ⟨S1000, .i32⟩
  | 66 => ⟨S1000x1, .i32⟩
  | 67 => ⟨S1000x4, .f32⟩
  | 68 => ⟨S1000, .f32⟩
  | 69 => ⟨S1000x1, .f32⟩
  | 70 => ⟨S_, .f32⟩
  | 71 => ⟨S1000x1, .f32⟩
  | 72 => ⟨S1000x1, .f32⟩
  | 73 => ⟨S1000x4, .f32⟩
  | 74 => ⟨S1000x4, .f32⟩
  | 75 => ⟨S1000x1, .f32⟩
  | 76 => ⟨S1000, .f32⟩
  | 77 => ⟨S1000x1, .f32⟩
  | 78 => ⟨S1000, .f32⟩
  | 79 => ⟨S1000, .f32⟩
  | 80 => ⟨S1000x1, .f32⟩
  | 81 => ⟨S1000, .f32⟩
  | 82 => ⟨S1000x1, .f32⟩
  | 83 => ⟨S1000, .f32⟩
  | 84 => ⟨S1000, .f32⟩
  | 85 => ⟨S1000, .f32⟩
  | 86 => ⟨S1000x1, .f32⟩
  | 87 => ⟨S1000, .f32⟩
  | 88 => ⟨S1000x1, .f32⟩
  | 89 => ⟨S1000, .f32⟩
  | 90 => ⟨S1000, .f32⟩
  | 91 => ⟨S1000x1, .f32⟩
  | 92 => ⟨S1000, .f32⟩
  | 93 => ⟨S1000x1, .f32⟩
  | 94 => ⟨S1000, .f32⟩
  | 95 => ⟨S1000, .f32⟩
  | 96 => ⟨S1000, .f32⟩
  | 97 => ⟨S1000x2, .f32⟩
  | 98 => ⟨S1000x1x2, .f32⟩
  | 99 => ⟨S1000x2, .f32⟩
  | 100 => ⟨S1x1000x2, .f32⟩
  | 101 => ⟨S1000x1000x2, .f32⟩
  | 102 => ⟨S1000x1000x2, .f32⟩
  | 103 => ⟨S1000x1000x2, .f32⟩
  | 104 => ⟨S1000x2, .f32⟩
  | 105 => ⟨S1000x1x2, .f32⟩
  | 106 => ⟨S1000x2, .f32⟩
  | 107 => ⟨S1x1000x2, .f32⟩
  | 108 => ⟨S1000x1000x2, .f32⟩
  | 109 => ⟨S1000x1000x2, .f32⟩
  | 110 => ⟨S1000x1000x2, .f32⟩
  | 111 => ⟨S1000x1000x2, .f32⟩
  | 112 => ⟨S_, .f32⟩
  | 113 => ⟨S_, .f32⟩
  | 114 => ⟨S1000x1000x2, .f32⟩
  | 115 => ⟨S1000x1000x2, .f32⟩
  | 116 => ⟨S1000x1000x1, .f32⟩
  | 117 => ⟨S1000x1000, .f32⟩
  | 118 => ⟨S1000x1000x1, .f32⟩
  | 119 => ⟨S1000x1000, .f32⟩
  | 120 => ⟨S1000x1000, .f32⟩
  | 121 => ⟨S1000x1, .f32⟩
  | 122 => ⟨S1x1000, .f32⟩
  | 123 => ⟨S1000x1000, .f32⟩
  | 124 => ⟨S1000x1000, .f32⟩
  | 125 => ⟨S1000x1000, .f32⟩
  | 126 => ⟨S1000x1000, .f32⟩
  | 127 => ⟨S_, .f32⟩
  | _ => ⟨S5000x81, .f32⟩

abbrev hbmTy0_2 (i : Nat) : BufTy := match i % 128 with
  | 0 => ⟨S1000x1000, .f32⟩
  | 1 => ⟨S1000x1000, .f32⟩
  | 2 => ⟨S1000x1000, .f32⟩
  | 3 => ⟨S_, .f32⟩
  | 4 => ⟨S1000, .f32⟩
  | 5 => ⟨S1000, .i1⟩
  | 6 => ⟨S1000, .i32⟩
  | 7 => ⟨S_, .i32⟩
  | 8 => ⟨S1000, .i32⟩
  | 9 => ⟨S1000x1000, .f32⟩
  | 10 => ⟨S1000, .i32⟩
  | 11 => ⟨S_, .i32⟩
  | 12 => ⟨S1000, .i1⟩
  | 13 => ⟨S_, .i32⟩
  | 14 => ⟨S_, .i1⟩
  | 15 => ⟨S1, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S1x1000, .f32⟩
  | 31 => ⟨S1000, .f32⟩
  | 32 => ⟨S_, .f32⟩
  | 33 => ⟨S1000, .f32⟩
  | 34 => ⟨S1000, .i1⟩
  | 35 => ⟨S1000, .i32⟩
  | 36 => ⟨S1000, .i1⟩
  | 37 => ⟨S1000, .i1⟩
  | 38 => ⟨S_, .i32⟩
  | 39 => ⟨S_, .i1⟩
  | 40 => ⟨S_, .i32⟩
  | 41 => ⟨S_, .i32⟩
  | 42 => ⟨S_, .i32⟩
  | 43 => ⟨S1, .i1⟩
  | 44 => ⟨S_, .i1⟩
  | 45 => ⟨S1000, .i1⟩
  | 46 => ⟨S1000, .i1⟩
  | 47 => ⟨S1000, .i1⟩
  | 48 => ⟨S_, .i32⟩
  | 49 => ⟨S_, .i32⟩
  | 50 => ⟨S_, .f32⟩
  | 51 => ⟨S_, .f32⟩
  | 52 => ⟨S1000, .f32⟩
  | 53 => ⟨S1000, .f32⟩
  | 54 => ⟨S100, .f32⟩
  | 55 => ⟨S100, .i32⟩
  | 56 => ⟨S_, .i32⟩
  | 57 => ⟨S100, .i32⟩
  | 58 => ⟨S100, .i1⟩
  | 59 => ⟨S_, .i32⟩
  | 60 => ⟨S100, .i32⟩
  | 61 => ⟨S100, .i32⟩
  | 62 => ⟨S100, .i32⟩
  | 63 => ⟨S100x1, .i32⟩
  | 64 => ⟨S100x4, .f32⟩
  | 65 => ⟨S_, .i32⟩
  | 66 => ⟨S100, .i32⟩
  | 67 => ⟨S100, .i1⟩
  | 68 => ⟨S_, .i32⟩
  | 69 => ⟨S100, .i32⟩
  | 70 => ⟨S100, .i32⟩
  | 71 => ⟨S100, .i32⟩
  | 72 => ⟨S100x1, .i32⟩
  | 73 => ⟨S100, .i32⟩
  | 74 => ⟨S_, .i32⟩
  | 75 => ⟨S100, .i32⟩
  | 76 => ⟨S100, .i32⟩
  | 77 => ⟨S100, .f32⟩
  | 78 => ⟨S100x1, .f32⟩
  | 79 => ⟨S100x1, .f32⟩
  | 80 => ⟨S100x6, .f32⟩
  | _ => ⟨S5000x81, .f32⟩

abbrev hbmTy (i : Nat) : BufTy := match i / 128 with
  | 0 => hbmTy0_0 i
  | 1 => hbmTy0_1 i
  | 2 => hbmTy0_2 i
  | _ => ⟨S5000x81, .f32⟩

abbrev bufTy : (tb : Table) → Fin (tcTables nBuf tb) → BufTy
  | .hbm, ⟨i, _⟩ => hbmTy i
  | _, _ => ⟨S5000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_7 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_8 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_9 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_10 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_11 : Ref sig .tc := ⟨.hbm, 95, rfl⟩
abbrev main_cst_12 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_13 : Ref sig .tc := ⟨.hbm, 105, rfl⟩
abbrev main_cst_14 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_15 : Ref sig .tc := ⟨.hbm, 115, rfl⟩
abbrev main_cst_16 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_17 : Ref sig .tc := ⟨.hbm, 125, rfl⟩
abbrev main_cst_18 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_19 : Ref sig .tc := ⟨.hbm, 138, rfl⟩
abbrev main_v95 : Ref sig .tc := ⟨.hbm, 139, rfl⟩
abbrev main_cst_20 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_21 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_22 : Ref sig .tc := ⟨.hbm, 155, rfl⟩
abbrev main_v109 : Ref sig .tc := ⟨.hbm, 156, rfl⟩
abbrev main_v110 : Ref sig .tc := ⟨.hbm, 157, rfl⟩
abbrev main_cst_23 : Ref sig .tc := ⟨.hbm, 158, rfl⟩
abbrev main_call4_v0 : Ref sig .tc := ⟨.hbm, 159, rfl⟩
abbrev main_call4_v1 : Ref sig .tc := ⟨.hbm, 160, rfl⟩
abbrev main_v111 : Ref sig .tc := ⟨.hbm, 161, rfl⟩
abbrev main_values : Ref sig .tc := ⟨.hbm, 162, rfl⟩
abbrev main_indices : Ref sig .tc := ⟨.hbm, 163, rfl⟩
abbrev main_c : Ref sig .tc := ⟨.hbm, 164, rfl⟩
abbrev main_call5_v0 : Ref sig .tc := ⟨.hbm, 165, rfl⟩
abbrev main_call5_c : Ref sig .tc := ⟨.hbm, 166, rfl⟩
abbrev main_call5_v1 : Ref sig .tc := ⟨.hbm, 167, rfl⟩
abbrev main_call5_c_0 : Ref sig .tc := ⟨.hbm, 168, rfl⟩
abbrev main_call5_v2 : Ref sig .tc := ⟨.hbm, 169, rfl⟩
abbrev main_call5_v3 : Ref sig .tc := ⟨.hbm, 170, rfl⟩
abbrev main_call5_v4 : Ref sig .tc := ⟨.hbm, 171, rfl⟩
abbrev main_call5_c_1 : Ref sig .tc := ⟨.hbm, 172, rfl⟩
abbrev main_call5_v5 : Ref sig .tc := ⟨.hbm, 173, rfl⟩
abbrev main_call5_v6 : Ref sig .tc := ⟨.hbm, 174, rfl⟩
abbrev main_call5_c_2 : Ref sig .tc := ⟨.hbm, 175, rfl⟩
abbrev main_call5_v7 : Ref sig .tc := ⟨.hbm, 176, rfl⟩
abbrev main_call5_v8 : Ref sig .tc := ⟨.hbm, 177, rfl⟩
abbrev main_call5_c_3 : Ref sig .tc := ⟨.hbm, 178, rfl⟩
abbrev main_call5_v9 : Ref sig .tc := ⟨.hbm, 179, rfl⟩
abbrev main_call5_v10 : Ref sig .tc := ⟨.hbm, 180, rfl⟩
abbrev main_call5_v11 : Ref sig .tc := ⟨.hbm, 181, rfl⟩
abbrev main_call5_v12 : Ref sig .tc := ⟨.hbm, 182, rfl⟩
abbrev main_call5_v13 : Ref sig .tc := ⟨.hbm, 183, rfl⟩
abbrev main_call5_v14 : Ref sig .tc := ⟨.hbm, 184, rfl⟩
abbrev main_v112 : Ref sig .tc := ⟨.hbm, 185, rfl⟩
abbrev main_v113 : Ref sig .tc := ⟨.hbm, 186, rfl⟩
abbrev main_c_24 : Ref sig .tc := ⟨.hbm, 187, rfl⟩
abbrev main_v114 : Ref sig .tc := ⟨.hbm, 188, rfl⟩
abbrev main_v115 : Ref sig .tc := ⟨.hbm, 189, rfl⟩
abbrev main_c_25 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_cst_26 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_cst_27 : Ref sig .tc := ⟨.hbm, 240, rfl⟩
abbrev main_call6_v0 : Ref sig .tc := ⟨.hbm, 241, rfl⟩
abbrev main_call6_v1 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_cst_28 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_cst_29 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_c_30 : Ref sig .tc := ⟨.hbm, 263, rfl⟩
abbrev main_v182_0 : Ref sig .tc := ⟨.hbm, 264, rfl⟩
abbrev main_v182_1 : Ref sig .tc := ⟨.hbm, 265, rfl⟩
abbrev main_v182_2 : Ref sig .tc := ⟨.hbm, 266, rfl⟩
abbrev main_v182_3 : Ref sig .tc := ⟨.hbm, 267, rfl⟩
abbrev main_v182_4 : Ref sig .tc := ⟨.hbm, 268, rfl⟩
abbrev main_while0c_c_43 : Ref sig .tc := ⟨.hbm, 269, rfl⟩
abbrev main_while0c_v204 : Ref sig .tc := ⟨.hbm, 270, rfl⟩
abbrev main_while0b_call7_v0 : Ref sig .tc := ⟨.hbm, 271, rfl⟩
abbrev main_while0b_v204 : Ref sig .tc := ⟨.hbm, 272, rfl⟩
abbrev main_while0b_c_43 : Ref sig .tc := ⟨.hbm, 273, rfl⟩
abbrev main_while0b_v205 : Ref sig .tc := ⟨.hbm, 274, rfl⟩
abbrev main_while0b_c_44 : Ref sig .tc := ⟨.hbm, 275, rfl⟩
abbrev main_while0b_v206 : Ref sig .tc := ⟨.hbm, 276, rfl⟩
abbrev main_while0b_v207 : Ref sig .tc := ⟨.hbm, 277, rfl⟩
abbrev main_while0b_c_45 : Ref sig .tc := ⟨.hbm, 278, rfl⟩
abbrev main_while0b_c_46 : Ref sig .tc := ⟨.hbm, 279, rfl⟩
abbrev main_while0b_v208 : Ref sig .tc := ⟨.hbm, 280, rfl⟩
abbrev main_while0b_c_47 : Ref sig .tc := ⟨.hbm, 281, rfl⟩
abbrev main_while0b_c_48 : Ref sig .tc := ⟨.hbm, 282, rfl⟩
abbrev main_while0b_v209 : Ref sig .tc := ⟨.hbm, 283, rfl⟩
abbrev main_while0b_c_49 : Ref sig .tc := ⟨.hbm, 284, rfl⟩
abbrev main_while0b_v210 : Ref sig .tc := ⟨.hbm, 285, rfl⟩
abbrev main_while0b_v211 : Ref sig .tc := ⟨.hbm, 286, rfl⟩
abbrev main_while0b_v212 : Ref sig .tc := ⟨.hbm, 287, rfl⟩
abbrev main_while0b_cst_50 : Ref sig .tc := ⟨.hbm, 288, rfl⟩
abbrev main_while0b_v213 : Ref sig .tc := ⟨.hbm, 289, rfl⟩
abbrev main_while0b_v214 : Ref sig .tc := ⟨.hbm, 290, rfl⟩
abbrev main_while0b_v215 : Ref sig .tc := ⟨.hbm, 291, rfl⟩
abbrev main_while0b_v216 : Ref sig .tc := ⟨.hbm, 292, rfl⟩
abbrev main_while0b_v217 : Ref sig .tc := ⟨.hbm, 293, rfl⟩
abbrev main_while0b_c_51 : Ref sig .tc := ⟨.hbm, 294, rfl⟩
abbrev main_while0b_v218 : Ref sig .tc := ⟨.hbm, 295, rfl⟩
abbrev main_while0b_c_52 : Ref sig .tc := ⟨.hbm, 296, rfl⟩
abbrev main_while0b_v219 : Ref sig .tc := ⟨.hbm, 297, rfl⟩
abbrev main_while0b_v220 : Ref sig .tc := ⟨.hbm, 298, rfl⟩
abbrev main_while0b_v221 : Ref sig .tc := ⟨.hbm, 299, rfl⟩
abbrev main_while0b_v222 : Ref sig .tc := ⟨.hbm, 300, rfl⟩
abbrev main_while0b_v223 : Ref sig .tc := ⟨.hbm, 301, rfl⟩
abbrev main_while0b_v224 : Ref sig .tc := ⟨.hbm, 302, rfl⟩
abbrev main_while0b_v225 : Ref sig .tc := ⟨.hbm, 303, rfl⟩
abbrev main_while0b_c_53 : Ref sig .tc := ⟨.hbm, 304, rfl⟩
abbrev main_while0b_v226 : Ref sig .tc := ⟨.hbm, 305, rfl⟩
abbrev main_cst_31 : Ref sig .tc := ⟨.hbm, 306, rfl⟩
abbrev main_call9_v0 : Ref sig .tc := ⟨.hbm, 307, rfl⟩
abbrev main_call9_v1 : Ref sig .tc := ⟨.hbm, 308, rfl⟩
abbrev main_v183 : Ref sig .tc := ⟨.hbm, 309, rfl⟩
abbrev main_values_32 : Ref sig .tc := ⟨.hbm, 310, rfl⟩
abbrev main_indices_33 : Ref sig .tc := ⟨.hbm, 311, rfl⟩
abbrev main_c_34 : Ref sig .tc := ⟨.hbm, 312, rfl⟩
abbrev main_v184 : Ref sig .tc := ⟨.hbm, 313, rfl⟩
abbrev main_v185 : Ref sig .tc := ⟨.hbm, 314, rfl⟩
abbrev main_c_35 : Ref sig .tc := ⟨.hbm, 315, rfl⟩
abbrev main_v186 : Ref sig .tc := ⟨.hbm, 316, rfl⟩
abbrev main_v187 : Ref sig .tc := ⟨.hbm, 317, rfl⟩
abbrev main_v188 : Ref sig .tc := ⟨.hbm, 318, rfl⟩
abbrev main_v189 : Ref sig .tc := ⟨.hbm, 319, rfl⟩
abbrev main_v190 : Ref sig .tc := ⟨.hbm, 320, rfl⟩
abbrev main_c_36 : Ref sig .tc := ⟨.hbm, 321, rfl⟩
abbrev main_v191 : Ref sig .tc := ⟨.hbm, 322, rfl⟩
abbrev main_v192 : Ref sig .tc := ⟨.hbm, 323, rfl⟩
abbrev main_c_37 : Ref sig .tc := ⟨.hbm, 324, rfl⟩
abbrev main_v193 : Ref sig .tc := ⟨.hbm, 325, rfl⟩
abbrev main_v194 : Ref sig .tc := ⟨.hbm, 326, rfl⟩
abbrev main_v195 : Ref sig .tc := ⟨.hbm, 327, rfl⟩
abbrev main_v196 : Ref sig .tc := ⟨.hbm, 328, rfl⟩
abbrev main_v197 : Ref sig .tc := ⟨.hbm, 329, rfl⟩
abbrev main_c_38 : Ref sig .tc := ⟨.hbm, 330, rfl⟩
abbrev main_v198 : Ref sig .tc := ⟨.hbm, 331, rfl⟩
abbrev main_v199 : Ref sig .tc := ⟨.hbm, 332, rfl⟩
abbrev main_v200 : Ref sig .tc := ⟨.hbm, 333, rfl⟩
abbrev main_v201 : Ref sig .tc := ⟨.hbm, 334, rfl⟩
abbrev main_v202 : Ref sig .tc := ⟨.hbm, 335, rfl⟩
abbrev main_v203 : Ref sig .tc := ⟨.hbm, 336, rfl⟩

abbrev nD : Nat := 1
abbrev τ : Topo := Topo.v7x

variable {F : FTy → Type} [FloatOps F]

abbrev main_while0_count : Scf.Loop 32 := ⟨0#32, 1000#32, 1#32⟩
-- ==== Proof.RefRun.lean ====
/- The reference's run, read off the generated fold over its host loop: every execution ends with the result at the fold's
   contents and the arguments as launched. -/
module

public import proofs.«01_k».proof.Proof.Gen.ReferenceIdeal.Run
public import Idealize.ShloMosaic.Lib.Quiescent

@[expose] public section

noncomputable section

namespace Cert.ReferenceIdeal.Value

open Idealize.ShloMosaic Idealize.ShloMosaic.TcCoe Idealize.SL.Sem
open Idealize.ShloMosaic.StableHlo
open Cert.ReferenceIdeal.Gen

variable {F : FTy → Type} [FloatOps F]

/-- What the stretches after the loop write, in order. -/
abbrev post15_W : List (Ref sig .tc) := [main_cst_31]
abbrev post16_W : List (Ref sig .tc) := [main_call9_v0, main_call9_v1, main_v183]
abbrev post17_W : List (Ref sig .tc) := [main_values_32, main_indices_33, main_c_34, main_v184, main_v185, main_c_35, main_v186, main_v187, main_v188, main_v189, main_v190, main_c_36, main_v191, main_v192, main_c_37, main_v193, main_v194, main_v195, main_v196, main_v197, main_c_38, main_v198, main_v199, main_v200, main_v201, main_v202, main_v203]

theorem post15_writes : (hostOps0_15 : List (HloOp τ sig (Elt F))).Forall fun op => op.writes ⊆ (post15_W.map (Proc.devRef (τ := τ) .tc)).toFinset :=
  StableHlo.forall_writes_sub_of_map rfl
theorem post16_writes : (hostOps0_16 : List (HloOp τ sig (Elt F))).Forall fun op => op.writes ⊆ (post16_W.map (Proc.devRef (τ := τ) .tc)).toFinset :=
  StableHlo.forall_writes_sub_of_map rfl
theorem post17_writes : (hostOps0_17 : List (HloOp τ sig (Elt F))).Forall fun op => op.writes ⊆ (post17_W.map (Proc.devRef (τ := τ) .tc)).toFinset :=
  StableHlo.forall_writes_sub_of_map rfl

/-- Everything the loop's condition and body write. -/
abbrev loop_W : List (Ref sig .tc) := condOps_W ++ while0Ops0_W ++ while0Ops0_1_W ++ while0Ops0_2_W ++ while0Ops0_3_W

/-- A reference the loop does not write keeps its contents over any number of trips. -/
theorem atTrip_of (W₀ : Dev nD → Valuation τ sig (Elt F)) (r : Ref sig .tc) (h : r ∉ loop_W) (c : Dev nD) :
    ∀ k, atTrip condOps bodyI W₀ k c (Proc.devRef .tc r) = W₀ c (Proc.devRef .tc r)
  | 0 => rfl
  | k + 1 => by
    simp only [loop_W, List.mem_append, not_or] at h
    rw [atTrip_succ]
    simp only [bodyI, afterL_cons, afterL_nil]
    rw [after_of_writes_sub while0Ops0_3 _ while0Ops0_3_writes h.2, after_of_writes_sub while0Ops0_2 _ while0Ops0_2_writes h.1.2,
      after_of_writes_sub while0Ops0_1 _ while0Ops0_1_writes h.1.1.2, after_of_writes_sub while0Ops0 _ while0Ops0_writes h.1.1.1.2,
      after_of_writes_sub condOps _ condOps_writes h.1.1.1.1]
    exact atTrip_of W₀ r (by simp only [loop_W, List.mem_append, not_or]; exact h) c k

/-- Everything the stretches before the loop write. -/
abbrev pre_W : List (Ref sig .tc) := hostOps0_W ++ hostOps0_1_W ++ hostOps0_2_W ++ hostOps0_3_W ++ hostOps0_4_W ++ hostOps0_5_W
  ++ hostOps0_6_W ++ hostOps0_7_W ++ hostOps0_8_W ++ hostOps0_9_W ++ hostOps0_10_W ++ hostOps0_11_W ++ hostOps0_12_W ++ hostOps0_13_W ++ hostOps0_14_W

/-- The contents when the failing condition has been tested: what the stretches after the loop start from. -/
def exitContents (m : (ℓ : Loc nD τ sig) → Buf (Elt F) ℓ) (c : Dev nD) : Valuation τ sig (Elt F) :=
  after condOps (atTrip condOps bodyI (entryContents preI m) 1000 c)

/-- A reference that the loop does not write is, after it, as it was at the loop's entry. -/
theorem exit_of (m : (ℓ : Loc nD τ sig) → Buf (Elt F) ℓ) (c : Dev nD) (r : Ref sig .tc) (h : r ∉ loop_W) :
    exitContents m c (Proc.devRef .tc r) = entryContents preI m c (Proc.devRef .tc r) := by
  have h0 := h
  simp only [loop_W, List.mem_append, not_or] at h
  unfold exitContents
  rw [after_of_writes_sub condOps _ condOps_writes h.1.1.1.1]
  exact atTrip_of _ r h0 c 1000

/-- The result, after the loop's exit contents. -/
def result (m : (ℓ : Loc nD τ sig) → Buf (Elt F) ℓ) (c : Dev nD) : (Proc.devRef .tc main_v203 : DevRef τ sig).ty.Contents (Elt F) :=
  afterL postI (exitContents m c) (Proc.devRef .tc main_v203)

/-- An argument is never written: its final contents are the launched ones. -/
theorem final_arg (m : (ℓ : Loc nD τ sig) → Buf (Elt F) ℓ) (c : Dev nD) (r : Ref sig .tc)
    (hl : r ∉ loop_W) (hp : r ∉ post15_W ++ post16_W ++ post17_W) (hq : r ∉ pre_W) :
    afterL postI (exitContents m c) (Proc.devRef .tc r) = m ((c.tc : Thread nD τ).loc r) := by
  simp only [List.mem_append, not_or] at hp
  simp only [pre_W, List.mem_append, not_or] at hq
  obtain ⟨⟨⟨⟨⟨⟨⟨⟨⟨⟨⟨⟨⟨⟨q0, q1⟩, q2⟩, q3⟩, q4⟩, q5⟩, q6⟩, q7⟩, q8⟩, q9⟩, q10⟩, q11⟩, q12⟩, q13⟩, q14⟩ := hq
  simp only [postI, afterL_cons, afterL_nil]
  rw [after_of_writes_sub hostOps0_17 _ post17_writes hp.2, after_of_writes_sub hostOps0_16 _ post16_writes hp.1.2,
    after_of_writes_sub hostOps0_15 _ post15_writes hp.1.1, exit_of m c r hl]
  simp only [entryContents, preI, afterL_cons, afterL_nil]
  rw [after_of_writes_sub hostOps0_14 _ hostOps0_14_writes q14, after_of_writes_sub hostOps0_13 _ hostOps0_13_writes q13,
    after_of_writes_sub hostOps0_12 _ hostOps0_12_writes q12, after_of_writes_sub hostOps0_11 _ hostOps0_11_writes q11,
    after_of_writes_sub hostOps0_10 _ hostOps0_10_writes q10, after_of_writes_sub hostOps0_9 _ hostOps0_9_writes q9,
    after_of_writes_sub hostOps0_8 _ hostOps0_8_writes q8, after_of_writes_sub hostOps0_7 _ hostOps0_7_writes q7,
    after_of_writes_sub hostOps0_6 _ hostOps0_6_writes q6, after_of_writes_sub hostOps0_5 _ hostOps0_5_writes q5,
    after_of_writes_sub hostOps0_4 _ hostOps0_4_writes q4, after_of_writes_sub hostOps0_3 _ hostOps0_3_writes q3,
    after_of_writes_sub hostOps0_2 _ hostOps0_2_writes q2, after_of_writes_sub hostOps0_1 _ hostOps0_1_writes q1,
    after_of_writes_sub hostOps0 _ hostOps0_writes q0]

/-- The reference's run: the result ends at `result`, the arguments as launched, every counter at zero. -/
theorem run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_v203) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := F)) _ _).mono (fun r h => ⟨fun c =>
    ⟨h c main_v203 rfl,
     (h c main_arg0 rfl).trans (final_arg m c main_arg0 (by decide +kernel) (by decide +kernel) (by decide +kernel)),
     (h c main_arg1 rfl).trans (final_arg m c main_arg1 (by decide +kernel) (by decide +kernel) (by decide +kernel)),
     (h c main_arg2 rfl).trans (final_arg m c main_arg2 (by decide +kernel) (by decide +kernel) (by decide +kernel))⟩,
    Idealize.ShloMosaic.sem_eq_zero_of_no_sems (by decide) r.2⟩) (run_fold m ρ)

end Cert.ReferenceIdeal.Value

end
-- ==== Proof.KerRun.lean ====
/- The kernel's run: every execution ends with the result at the boundary contents and the arguments as launched. -/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's run: the result ends at the last boundary's contents, the arguments as launched, every counter at zero. -/
theorem run : θ_run defs (onTc (τ := τ) (main (F := F))) ⟨m, fun _ => 0, ρ⟩ (fun r => (∀ c : Dev nD,
      r.2.mem ((c.tc : Thread nD τ).loc main_v48) = W10 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨(fun c =>
      ⟨h c _ (mem_uc main_v48 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c)⟩), funext fun g => hz g (.inr (no_unscoped g.2))⟩)

end Cert.KernelIdeal.Value

end
-- ==== Proof.Spec.lean ====
module

public import proofs.«01_k».proof.Proof.RefRun
public import Idealize.ShloMosaic.Lib.ValueIdx

@[expose] public section

noncomputable section

/-! The scalar formulas both programs compute: one box decoded and clipped, one pair's overlap. -/

namespace Cert.Spec

open Idealize.ShloMosaic

/-- The number a 32-bit pattern stands for. -/
abbrev cst (b : BitVec 32) : Ideal .f32 := FloatOps.ofBits .f32 b

/-- A proposal's extent along the axis `a` (0 across, 1 down). -/
def ext (p : Fin 4 → Ideal .f32) (a : Fin 2) : Ideal .f32 :=
  match a with
  | 0 => FloatOps.subf (p 2) (p 0)
  | 1 => FloatOps.subf (p 3) (p 1)

/-- A proposal's centre along the axis `a`. -/
def ctr (p : Fin 4 → Ideal .f32) (a : Fin 2) : Ideal .f32 :=
  match a with
  | 0 => FloatOps.addf (p 0) (FloatOps.mulf (cst 0x3F000000#32) (ext p 0))
  | 1 => FloatOps.addf (p 1) (FloatOps.mulf (cst 0x3F000000#32) (ext p 1))

/-- The decoded centre: the proposal's centre moved by `d` tenths of its extent. -/
def pc (p : Fin 4 → Ideal .f32) (d : Ideal .f32) (a : Fin 2) : Ideal .f32 :=
  FloatOps.addf (FloatOps.mulf (FloatOps.divf d (cst 0x41200000#32)) (ext p a)) (ctr p a)

/-- Half the decoded extent. -/
def hw (p : Fin 4 → Ideal .f32) (d : Ideal .f32) (a : Fin 2) : Ideal .f32 :=
  FloatOps.mulf (cst 0x3F000000#32)
    (FloatOps.mulf (FloatOps.exp (FloatOps.minimumf (FloatOps.divf d (cst 0x40A00000#32)) (cst 0x40845349#32)))
      (ext p a))

/-- The decoded box, coordinate by coordinate: low corner, then high corner. -/
def raw (p d : Fin 4 → Ideal .f32) (q : Fin 4) : Ideal .f32 :=
  match q with
  | 0 => FloatOps.subf (pc p (d 0) 0) (hw p (d 2) 0)
  | 1 => FloatOps.subf (pc p (d 1) 1) (hw p (d 3) 1)
  | 2 => FloatOps.addf (pc p (d 0) 0) (hw p (d 2) 0)
  | 3 => FloatOps.addf (pc p (d 1) 1) (hw p (d 3) 1)

/-- The image's upper limit for the coordinate `q`. -/
def lim (q : Fin 4) : BitVec 32 :=
  match q with
  | 0 => 0x44A6A000#32
  | 1 => 0x44480000#32
  | 2 => 0x44A6A000#32
  | 3 => 0x44480000#32

/-- The decoded box clipped to the image. -/
def box (p d : Fin 4 → Ideal .f32) (q : Fin 4) : Ideal .f32 :=
  FloatOps.minimumf (cst (lim q)) (FloatOps.maximumf (cst 0#32) (raw p d q))

/-- A box's area. -/
def area (x : Fin 4 → Ideal .f32) : Ideal .f32 :=
  FloatOps.mulf (FloatOps.subf (x 2) (x 0)) (FloatOps.subf (x 3) (x 1))

/-- The area two boxes share. -/
def inter (x y : Fin 4 → Ideal .f32) : Ideal .f32 :=
  FloatOps.mulf
    (FloatOps.maximumf (cst 0#32) (FloatOps.subf (FloatOps.minimumf (x 2) (y 2)) (FloatOps.maximumf (x 0) (y 0))))
    (FloatOps.maximumf (cst 0#32) (FloatOps.subf (FloatOps.minimumf (x 3) (y 3)) (FloatOps.maximumf (x 1) (y 1))))

/-- The overlap of two boxes: shared area over joint area. -/
def iou (x y : Fin 4 → Ideal .f32) : Ideal .f32 :=
  FloatOps.divf (inter x y)
    (FloatOps.addf (FloatOps.subf (FloatOps.addf (area x) (area y)) (inter x y)) (cst 814313567#32))

/-- A box moved by its class's offset. -/
def shift (x : Fin 4 → Ideal .f32) (c : BitVec 32) (q : Fin 4) : Ideal .f32 :=
  FloatOps.addf (x q) (FloatOps.mulf (FloatOps.sitofp .f32 c) (cst 0x45055000#32))

/-- A row's greatest entry. -/
def mx (x : Fin 81 → Ideal .f32) : Ideal .f32 := Finset.univ.fold max (cst 0xFF800000#32) x

/-- A row's exponentials, its greatest entry taken off. -/
def ex (x : Fin 81 → Ideal .f32) (j : Fin 81) : Ideal .f32 := FloatOps.exp (FloatOps.subf (x j) (mx x))

/-- The row's class probabilities. -/
def prob (x : Fin 81 → Ideal .f32) (j : Fin 81) : Ideal .f32 := FloatOps.divf (ex x j) (∑ k, ex x k : EReal)

/-- A class's probability where it is above the threshold, and `z` elsewhere. -/
def score (p z : Ideal .f32) : Ideal .f32 :=
  Scalar.select (FloatOps.cmpf .ogt p (cst 0x3D4CCCCD#32)) p z

end Cert.Spec

end
-- ==== Proof.Sort.lean ====
module

public import proofs.«01_k».proof.Proof.RefRun
public import Idealize.ShloMosaic.Lib.SortFacts

@[expose] public section

/-! Stable descending sorts, the greatest `k` of a column, and the two-level selection. -/

namespace Cert.Sort

open Idealize.ShloMosaic

variable {α : Type} [LinearOrder α]

/-- Position `a` comes before position `b`: greater value, or the same value at a smaller position. -/
def Lt {n : Nat} (f : Fin n → α) (a b : Fin n) : Prop := f b < f a ∨ (f a = f b ∧ a < b)

theorem Lt.trans {n : Nat} {f : Fin n → α} {a b c : Fin n} (h : Lt f a b) (h' : Lt f b c) : Lt f a c := by
  rcases h with h | ⟨h, hl⟩ <;> rcases h' with h' | ⟨h', hl'⟩
  · exact Or.inl (h'.trans h)
  · exact Or.inl (h' ▸ h)
  · exact Or.inl (h ▸ h')
  · exact Or.inr ⟨h.trans h', hl.trans hl'⟩

theorem Lt.irrefl {n : Nat} {f : Fin n → α} {a : Fin n} (h : Lt f a a) : False := by
  rcases h with h | ⟨_, h⟩ <;> exact lt_irrefl _ h

theorem Lt.total {n : Nat} (f : Fin n → α) {a b : Fin n} (h : a ≠ b) : Lt f a b ∨ Lt f b a := by
  rcases lt_trichotomy (f a) (f b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- Inserting a position smaller than all of an ordered list's keeps the list ordered. -/
theorem pairwise_insert {n : Nat} (f : Fin n → α) (a : Fin n) (m : List (Fin n)) (hm : ∀ b ∈ m, a < b)
    (hp : m.Pairwise (Lt f)) :
    (insertBefore (fun k k' => decide (f k' < f k)) a m).Pairwise (Lt f) := by
  induction m with
  | nil => exact List.pairwise_singleton _ _
  | cons b m ih =>
    rw [List.pairwise_cons] at hp
    unfold insertBefore
    split
    · rename_i h
      rw [List.pairwise_cons]
      refine ⟨fun c hc => ?_, ih (fun c hc => hm c (List.mem_cons_of_mem _ hc)) hp.2⟩
      rcases List.mem_cons.1 ((perm_insertBefore _ a m).mem_iff.1 hc) with rfl | hc
      · exact Or.inl (of_decide_eq_true h)
      · exact hp.1 c hc
    · rename_i h
      have hab : Lt f a b := by
        rcases lt_or_eq_of_le (not_lt.1 (fun h' => h (decide_eq_true h'))) with h' | h'
        · exact Or.inl h'
        · exact Or.inr ⟨h'.symm, hm b List.mem_cons_self⟩
      rw [List.pairwise_cons]
      refine ⟨fun c hc => ?_, List.pairwise_cons.2 hp⟩
      rcases List.mem_cons.1 hc with rfl | hc
      · exact hab
      · exact hab.trans (hp.1 c hc)

theorem pairwise_stable {n : Nat} (f : Fin n → α) (l : List (Fin n)) (hl : l.Pairwise (· < ·)) :
    (stableSort (fun k k' => decide (f k' < f k)) l).Pairwise (Lt f) := by
  induction l with
  | nil => exact List.Pairwise.nil
  | cons a l ih =>
    rw [List.pairwise_cons] at hl
    unfold stableSort
    exact pairwise_insert f a _ (fun b hb => hl.1 b ((perm_stableSort _ l).mem_iff.1 hb)) (ih hl.2)

/-- The position a stable descending sort of `f` puts at place `i`. -/
def srt {n : Nat} (f : Fin n → α) : Fin n → Fin n := sortedFrom (fun k k' => decide (f k' < f k))

/-- The sorted places are in order. -/
theorem srt_lt {n : Nat} (f : Fin n → α) {i j : Fin n} (h : i < j) : Lt f (srt f i) (srt f j) := by
  have hp := List.pairwise_iff_get.mp (pairwise_stable f (List.finRange n) (List.pairwise_lt_finRange n))
  exact hp (i.cast (length_sortPositions n _).symm) (j.cast (length_sortPositions n _).symm) h

theorem srt_inj {n : Nat} (f : Fin n → α) : Function.Injective (srt f) := sortedFrom_injective _

theorem srt_surj {n : Nat} (f : Fin n → α) : Function.Surjective (srt f) := sortedFrom_surjective _

/-- An order between two sorted places' positions is an order between the places. -/
theorem lt_of_srt {n : Nat} (f : Fin n → α) {i j : Fin n} (h : Lt f (srt f i) (srt f j)) : i < j := by
  rcases lt_trichotomy i j with h' | h' | h'
  · exact h'
  · subst h'; exact h.irrefl.elim
  · exact ((srt_lt f h').trans h).irrefl.elim

/-- `τ` lists the first `k` positions of `f`, in order. -/
structure IsTop {n k : Nat} (f : Fin n → α) (τ : Fin k → Fin n) : Prop where
  lt : ∀ i j, i < j → Lt f (τ i) (τ j)
  out : ∀ y, (∀ i, τ i ≠ y) → ∀ i, Lt f (τ i) y

/-- The list of the first `k` positions is unique. -/
theorem IsTop.eq {n k : Nat} {f : Fin n → α} {τ τ' : Fin k → Fin n} (h : IsTop f τ) (h' : IsTop f τ') : τ = τ' := by
  funext i
  induction i using WellFoundedLT.induction with
  | ind i ih =>
    by_contra hne
    have key : ∀ σ σ' : Fin k → Fin n, IsTop f σ → IsTop f σ' → (∀ j, j < i → σ j = σ' j) → Lt f (σ i) (σ' i) → False := by
      intro σ σ' hs hs' he hl
      by_cases hx : ∃ j, σ' j = σ i
      · obtain ⟨j, hj⟩ := hx
        rcases lt_trichotomy j i with h1 | h1 | h1
        · have := hs.lt _ _ h1
          rw [he j h1, hj] at this
          exact this.irrefl
        · subst h1; rw [hj] at hl; exact hl.irrefl
        · have := hs'.lt _ _ h1
          rw [hj] at this
          exact (this.trans hl).irrefl
      · exact (hl.trans (hs'.out (σ i) (fun j hj => hx ⟨j, hj⟩) i)).irrefl
    rcases Lt.total f hne with hl | hl
    · exact key τ τ' h h' ih hl
    · exact key τ' τ h' h (fun j hj => (ih j hj).symm) hl

/-- Two columns that order the positions alike have the same first `k`. -/
theorem IsTop.congr {n k : Nat} {β : Type} [LinearOrder β] {f : Fin n → α} {g : Fin n → β} {τ : Fin k → Fin n}
    (h : IsTop f τ) (hfg : ∀ a b, Lt f a b → Lt g a b) : IsTop g τ :=
  ⟨fun i j hij => hfg _ _ (h.lt i j hij), fun y hy i => hfg _ _ (h.out y hy i)⟩

/-- The first `k` places of the stable sort are the first `k` positions. -/
theorem isTop_srt {n k : Nat} (hk : k ≤ n) (f : Fin n → α) : IsTop f (fun i : Fin k => srt f (i.castLE hk)) := by
  refine ⟨fun i j h => srt_lt f h, fun y hy i => ?_⟩
  obtain ⟨j, rfl⟩ := srt_surj f y
  refine srt_lt f ?_
  by_contra hj
  have hj' : j.val < k := lt_of_le_of_lt (not_lt.1 hj) i.isLt
  exact hy ⟨j.val, hj'⟩ rfl

/-! ## Sixteen chunks of 25000, the first 1000 of each, then the first 1000 of those -/

/-- Position `g` of chunk `c`. -/
def glob (c : Fin 16) (g : Fin 25000) : Fin 400000 := ⟨25000 * c.val + g.val, by omega⟩

/-- The candidate at place `t`: chunk `t / 1000`'s position of rank `t % 1000`. -/
def cand (f : Fin 400000 → α) (t : Fin 16000) : Fin 400000 :=
  glob ⟨t.val / 1000, by omega⟩ (srt (fun g => f (glob ⟨t.val / 1000, by omega⟩ g)) ⟨t.val % 1000, by omega⟩)

theorem lt_glob {f : Fin 400000 → α} {c : Fin 16} {g g' : Fin 25000} (h : Lt (fun g => f (glob c g)) g g') :
    Lt f (glob c g) (glob c g') := by
  rcases h with h | ⟨h, hl⟩
  · exact Or.inl h
  · refine Or.inr ⟨h, ?_⟩
    show 25000 * c.val + g.val < 25000 * c.val + g'.val
    have : g.val < g'.val := hl
    omega

/-- The candidates of one chunk are in the order of their places. -/
theorem cand_lt_same (f : Fin 400000 → α) (c : Nat) (hc : c < 16) (r r' : Nat) (hr : r < 1000) (hr' : r' < 1000)
    (h : r < r') :
    Lt f (cand f ⟨1000 * c + r, by omega⟩) (cand f ⟨1000 * c + r', by omega⟩) := by
  have e : ∀ r (hr : r < 1000), cand f ⟨1000 * c + r, by omega⟩ =
      glob ⟨c, hc⟩ (srt (fun g => f (glob ⟨c, hc⟩ g)) ⟨r, by omega⟩) := by
    intro r hr
    have e1 : (1000 * c + r) / 1000 = c := by omega
    have e2 : (1000 * c + r) % 1000 = r := by omega
    unfold cand
    simp only [e1, e2]
  rw [e r hr, e r' hr']
  exact lt_glob (srt_lt _ h)

/-- A candidate order is the order of the positions. -/
theorem cand_lt (f : Fin 400000 → α) {a b : Fin 16000} (h : Lt (fun t => f (cand f t)) a b) :
    Lt f (cand f a) (cand f b) := by
  rcases h with h | ⟨h, hl⟩
  · exact Or.inl h
  · have hl' : a.val < b.val := hl
    by_cases hc : a.val / 1000 = b.val / 1000
    · have := cand_lt_same f (a.val / 1000) (by omega) (a.val % 1000) (b.val % 1000) (by omega) (by omega) (by omega)
      have ea : (⟨1000 * (a.val / 1000) + a.val % 1000, by omega⟩ : Fin 16000) = a := Fin.ext (by show 1000 * (a.val / 1000) + a.val % 1000 = a.val; omega)
      have eb : (⟨1000 * (a.val / 1000) + b.val % 1000, by omega⟩ : Fin 16000) = b := Fin.ext (by show 1000 * (a.val / 1000) + b.val % 1000 = b.val; omega)
      rw [ea, eb] at this
      exact this
    · refine Or.inr ⟨h, ?_⟩
      show 25000 * (a.val / 1000) + _ < 25000 * (b.val / 1000) + _
      have := (srt (fun g => f (glob ⟨a.val / 1000, by omega⟩ g)) ⟨a.val % 1000, by omega⟩).isLt
      omega

/-- The two-level selection lists the first 1000 positions. -/
theorem isTop_two (f : Fin 400000 → α) :
    IsTop f (fun i : Fin 1000 => cand f (srt (fun t => f (cand f t)) (i.castLE (by omega)))) := by
  refine ⟨fun i j h => cand_lt f (srt_lt _ h), fun y hy i => ?_⟩
  by_cases hb : ∃ b, cand f b = y
  · obtain ⟨b, rfl⟩ := hb
    refine cand_lt f ((isTop_srt (k := 1000) (by omega) (fun t => f (cand f t))).out b (fun j hj => ?_) i)
    exact hy j (congrArg (cand f) hj)
  · set z := cand f (srt (fun t => f (cand f t)) (i.castLE (by omega))) with hz
    rcases Lt.total f (fun e => hy i e) with hl | hl
    · exact hl
    exfalso
    have hc : y.val / 25000 < 16 := by omega
    obtain ⟨r, hr⟩ := srt_surj (fun g => f (glob ⟨y.val / 25000, hc⟩ g)) ⟨y.val % 25000, by omega⟩
    have hy' : glob ⟨y.val / 25000, hc⟩ (srt (fun g => f (glob ⟨y.val / 25000, hc⟩ g)) r) = y := by
      rw [hr]; exact Fin.ext (by show 25000 * (y.val / 25000) + y.val % 25000 = y.val; omega)
    have ecand : ∀ s : Fin 1000, cand f ⟨1000 * (y.val / 25000) + s.val, by omega⟩ =
        glob ⟨y.val / 25000, hc⟩ (srt (fun g => f (glob ⟨y.val / 25000, hc⟩ g)) ⟨s.val, by omega⟩) := by
      intro s
      have e1 : (1000 * (y.val / 25000) + s.val) / 1000 = y.val / 25000 := by omega
      have e2 : (1000 * (y.val / 25000) + s.val) % 1000 = s.val := by omega
      unfold cand
      simp only [e1, e2]
    have hr1000 : 1000 ≤ r.val := by
      by_contra h
      exact hb ⟨⟨1000 * (y.val / 25000) + r.val, by omega⟩, (ecand ⟨r.val, by omega⟩).trans hy'⟩
    have hlt : ∀ s : Fin 1000, Lt f (cand f ⟨1000 * (y.val / 25000) + s.val, by omega⟩) z := by
      intro s
      refine Lt.trans ?_ hl
      rw [ecand s]
      conv => rhs; rw [← hy']
      exact lt_glob (srt_lt _ (show s.val < r.val by omega))
    have hpos : ∀ s : Fin 1000, ∃ j : Fin 16000, j.val < i.val ∧
        srt (fun t => f (cand f t)) j = ⟨1000 * (y.val / 25000) + s.val, by omega⟩ := by
      intro s
      obtain ⟨j, hj⟩ := srt_surj (fun t => f (cand f t)) ⟨1000 * (y.val / 25000) + s.val, by omega⟩
      refine ⟨j, ?_, hj⟩
      rcases lt_trichotomy j.val i.val with h | h | h
      · exact h
      · have e : j = i.castLE (by omega) := Fin.ext h
        have := hlt s
        rw [← hj, e, hz] at this
        exact this.irrefl.elim
      · have h2 := cand_lt f (srt_lt (fun t => f (cand f t)) (show i.castLE (by omega) < j from h))
        have := hlt s
        rw [← hj] at this
        exact (h2.trans this).irrefl.elim
    choose g hg hg' using hpos
    have hinj : Function.Injective (fun s : Fin 1000 => (⟨(g s).val, hg s⟩ : Fin i.val)) := by
      intro s s' h
      have h1 : g s = g s' := Fin.ext (congrArg (fun x : Fin i.val => x.val) h)
      have h2 := (hg' s).symm.trans ((congrArg _ h1).trans (hg' s'))
      have h3 := congrArg (fun x : Fin 16000 => x.val) h2
      exact Fin.ext (by simpa using h3)
    have := Fintype.card_le_of_injective _ hinj
    simp only [Fintype.card_fin] at this
    omega

end Cert.Sort

end
-- ==== Proof.Detect.lean ====
module

public import proofs.«01_k».proof.Proof.Spec
public import proofs.«01_k».proof.Proof.Sort

@[expose] public section

noncomputable section

/-! The detections as one formula of the three arguments: greedy suppression over the selected entries, then the final selection. -/

namespace Cert.Spec

open Idealize.ShloMosaic Cert.Sort
open Classical

/-- A proposition as a bit. -/
def bit (p : Prop) : BitVec 1 := BitVec.ofBool (@decide p (propDecidable p))

/-- A decided proposition's bit, however it is decided. -/
theorem bit_eq (p : Prop) [Decidable p] : BitVec.ofBool (decide p) = bit p := by
  unfold bit; congr

/-- Which entries are alive after `k` rounds: round `i` drops the entries that entry `i` hits, where entry `i` is alive itself. -/
def alive (hit : Fin 1000 → Fin 1000 → Prop) (a0 : Fin 1000 → Prop) : ℕ → Fin 1000 → Prop
  | 0 => a0
  | k + 1 => fun t => alive hit a0 k t ∧ ¬ ∃ h : k < 1000, alive hit a0 k ⟨k, h⟩ ∧ hit ⟨k, h⟩ t

/-- One entry of the result: the `n`-th best of the scores `s`, with its box, its score and its class number. -/
def tail (B : Fin 1000 → Fin 4 → EReal) (s : Fin 1000 → EReal) (C : Fin 1000 → ℕ) (n : Fin 100) (q : Fin 6) : EReal :=
  if h : q.val < 4 then B (srt s (n.castLE (by omega))) ⟨q.val, h⟩
  else if q.val = 4 then s (srt s (n.castLE (by omega)))
  else FloatOps.sitofp (F := Ideal) .f32 (IntOp.addi (BitVec.ofNat 32 (C (srt s (n.castLE (by omega))))) 1#32)

/-- All scores, flat, with `z` where the class is not above the threshold. -/
def scores (x0 : Fin 5000 → Fin 81 → EReal) (z : Fin 400000 → EReal) (n : Fin 400000) : EReal :=
  score (prob (x0 ⟨n.val / 80, by omega⟩) ⟨1 + n.val % 80, by omega⟩) (z n)

/-- The decoded box of the flat entry `n`. -/
def boxOf (x1 : Fin 5000 → Fin 324 → EReal) (x2 : Fin 5000 → Fin 4 → EReal) (n : Fin 400000) (q : Fin 4) : EReal :=
  box (x2 ⟨n.val / 80, by omega⟩) (fun i => x1 ⟨n.val / 80, by omega⟩ ⟨(1 + n.val % 80) * 4 + i.val, by omega⟩) q

/-- The box of the flat entry `n`, moved by its class. -/
def movedOf (x1 : Fin 5000 → Fin 324 → EReal) (x2 : Fin 5000 → Fin 4 → EReal) (n : Fin 400000) (q : Fin 4) : EReal :=
  shift (boxOf x1 x2 n) (BitVec.ofNat 32 (n.val % 80)) q

/-- Whether the selected entry `k` hits the entry `t`: they overlap by more than half and `t` comes later. -/
def hits (x1 : Fin 5000 → Fin 324 → EReal) (x2 : Fin 5000 → Fin 4 → EReal) (σ : Fin 1000 → Fin 400000) (k t : Fin 1000) : Prop :=
  cst 0x3F000000#32 < (iou (movedOf x1 x2 (σ k)) (movedOf x1 x2 (σ t)) : EReal) ∧ k < t

/-- The selected entries' scores after suppression. -/
def finals (x1 : Fin 5000 → Fin 324 → EReal) (x2 : Fin 5000 → Fin 4 → EReal) (σ : Fin 1000 → Fin 400000) (v : Fin 1000 → EReal)
    (t : Fin 1000) : EReal :=
  if alive (hits x1 x2 σ) (fun t => (cst 0#32 : EReal) < v t) 1000 t then v t else (cst 0xBF800000#32 : EReal)

/-- The result, of the selected entries `σ` and their scores `v`. -/
def detect (x1 : Fin 5000 → Fin 324 → EReal) (x2 : Fin 5000 → Fin 4 → EReal) (σ : Fin 1000 → Fin 400000) (v : Fin 1000 → EReal)
    (n : Fin 100) (q : Fin 6) : EReal :=
  tail (fun t => boxOf x1 x2 (σ t)) (finals x1 x2 σ v) (fun t => (σ t).val % 80) n q

end Cert.Spec

end
-- ==== Proof.Order.lean ====
module

public import proofs.«01_k».proof.Proof.Detect
public import proofs.«01_k».proof.Proof.Sort
public import Idealize.ShloMosaic.PureOps.Ideal.Laws

@[expose] public section

noncomputable section

/-! The kernel's fill orders the entries below the threshold by their numbers, as the tie-break of an equal fill does. -/

namespace Cert.Spec

open Idealize.ShloMosaic
open Cert.Sort

/-- The fill the kernel gives the flat entry `n`: minus one, and a little less for each entry before it. -/
def fill (n : Fin 400000) : EReal := cst 0xBF800000#32 - ((n.val : ℝ) : EReal) * cst 0x3727C5AC#32

theorem step_nonneg : (0 : EReal) ≤ cst 0x3727C5AC#32 := by
  show (0 : EReal) ≤ Ideal.ofBits .f32 0x3727C5AC#32
  simp [Ideal.ofBits, Ideal.ieee]
  positivity

theorem zero_lt_threshold : (0 : EReal) < cst 0x3D4CCCCD#32 := by
  show (0 : EReal) < Ideal.ofBits .f32 0x3D4CCCCD#32
  simp [Ideal.ofBits, Ideal.ieee]
  positivity

theorem one_neg : (cst 0xBF800000#32 : EReal) ≤ 0 := by
  show Ideal.ofBits .f32 0xBF800000#32 ≤ (0 : EReal)
  simp [Ideal.ofBits, Ideal.ieee]
  positivity

theorem one_lt_threshold : (cst 0xBF800000#32 : EReal) < cst 0x3D4CCCCD#32 := one_neg.trans_lt zero_lt_threshold

theorem fill_anti {a b : Fin 400000} (h : a ≤ b) : fill b ≤ fill a := by
  unfold fill
  refine EReal.sub_le_sub le_rfl ?_
  refine mul_le_mul_of_nonneg_right ?_ step_nonneg
  exact EReal.coe_le_coe_iff.2 (Nat.cast_le.2 h)

theorem fill_le (a : Fin 400000) : fill a ≤ cst 0xBF800000#32 := by
  refine (fill_anti (show (⟨0, by omega⟩ : Fin 400000) ≤ a from Nat.zero_le _)).trans ?_
  unfold fill
  simp

variable (x0 : Fin 5000 → Fin 81 → EReal)

/-- The probability behind the flat entry `n`. -/
def pr (n : Fin 400000) : EReal := prob (x0 ⟨n.val / 80, by omega⟩) ⟨1 + n.val % 80, by omega⟩

theorem scores_pos (z : Fin 400000 → EReal) (n : Fin 400000) (h : (cst 0x3D4CCCCD#32 : EReal) < pr x0 n) : scores x0 z n = pr x0 n := by
  show Scalar.select (BitVec.ofBool (decide ((cst 0x3D4CCCCD#32 : EReal) < pr x0 n))) (pr x0 n) (z n) = _
  rw [decide_eq_true h]; rfl

theorem scores_neg (z : Fin 400000 → EReal) (n : Fin 400000) (h : ¬ (cst 0x3D4CCCCD#32 : EReal) < pr x0 n) : scores x0 z n = z n := by
  show Scalar.select (BitVec.ofBool (decide ((cst 0x3D4CCCCD#32 : EReal) < pr x0 n))) (pr x0 n) (z n) = _
  rw [decide_eq_false h]; rfl

/-- The order of the kernel's scores is the order of the reference's. -/
theorem order (a b : Fin 400000) (h : Lt (scores x0 fill) a b) : Lt (scores x0 fun _ => (cst 0xBF800000#32 : EReal)) a b := by
  by_cases ha : (cst 0x3D4CCCCD#32 : EReal) < pr x0 a <;> by_cases hb : (cst 0x3D4CCCCD#32 : EReal) < pr x0 b
  · unfold Lt at h ⊢
    rw [scores_pos x0 _ a ha, scores_pos x0 _ b hb] at h ⊢
    exact h
  · refine Or.inl ?_
    rw [scores_pos x0 _ a ha, scores_neg x0 _ b hb]
    exact one_lt_threshold.trans ha
  · exfalso
    have hl : fill a < pr x0 b := (fill_le a).trans_lt (one_lt_threshold.trans hb)
    unfold Lt at h
    rw [scores_neg x0 _ a ha, scores_pos x0 _ b hb] at h
    rcases h with h | ⟨h, _⟩
    · exact absurd (hl.trans h) (lt_irrefl _)
    · exact absurd (h ▸ hl) (lt_irrefl _)
  · unfold Lt at h ⊢
    rw [scores_neg x0 _ a ha, scores_neg x0 _ b hb] at h ⊢
    refine Or.inr ⟨rfl, ?_⟩
    rcases h with h | ⟨_, h⟩
    · by_contra hn
      exact absurd (h.trans_le (fill_anti (not_lt.1 hn))) (lt_irrefl _)
    · exact h

/-- The kernel's score where it is above nought and minus one elsewhere is the reference's score. -/
theorem kept (n : Fin 400000) :
    Scalar.select (FloatOps.cmpf (F := Ideal) (φ := .f32) .ogt (scores x0 fill n) (cst 0#32)) (scores x0 fill n) (cst 0xBF800000#32 : EReal)
      = scores x0 (fun _ => (cst 0xBF800000#32 : EReal)) n := by
  show Scalar.select (BitVec.ofBool (decide ((cst 0#32 : EReal) < scores x0 fill n))) (scores x0 fill n) (cst 0xBF800000#32 : EReal) = _
  have h0 : (cst 0#32 : EReal) = 0 := Ideal.ofBits_zero_f32
  by_cases h : (cst 0x3D4CCCCD#32 : EReal) < pr x0 n
  · rw [scores_pos x0 _ n h, scores_pos x0 _ n h, decide_eq_true (h0 ▸ zero_lt_threshold.trans h)]; rfl
  · rw [scores_neg x0 _ n h, scores_neg x0 _ n h, decide_eq_false (not_lt.2 (h0 ▸ (fill_le n).trans one_neg))]; rfl

/-- The two-level selection of the kernel's scores is the one-level selection of the reference's. -/
theorem select_eq (i : Fin 1000) :
    cand (scores x0 fill) (srt (fun t => scores x0 fill (cand (scores x0 fill) t)) (i.castLE (by omega)))
      = srt (scores x0 fun _ => (cst 0xBF800000#32 : EReal)) (i.castLE (by omega)) :=
  congrFun (IsTop.eq ((isTop_two (scores x0 fill)).congr (order x0)) (isTop_srt (by omega) _)) i

end Cert.Spec

end
-- ==== Proof.TopK.lean ====
module

public import proofs.«01_k».proof.Proof.Sort
public import Idealize.ShloMosaic.Lib.ValueIdx
public import Idealize.ShloMosaic.Lib.StableHlo.ReadAt

@[expose] public section

noncomputable section

/-! The printed top-k of extended reals, read at an index as a stable descending sort. -/

namespace Cert.Sort

open Idealize.ShloMosaic

/-- The printed "greater" compare is the extended reals' order. -/
theorem cmpTotal_gt (a b : EReal) :
    ((FloatOps.cmpfTotal (F := Ideal) (φ := .f32) CmpDirection.gt a b) == 1#1) = decide (b < a) := by
  show (BitVec.ofBool (decide (b < a)) == 1#1) = decide (b < a)
  cases decide (b < a) <;> rfl

theorem sortedFrom_gt {n : Nat} (f : Fin n → EReal) :
    sortedFrom (fun k k' => (FloatOps.cmpfTotal (F := Ideal) (φ := .f32) CmpDirection.gt (f k) (f k')) == 1#1) = srt f := by
  unfold srt
  congr 1
  funext k k'
  exact cmpTotal_gt _ _

/-- Replacing a one-axis index's coordinate. -/
theorem along1 {n : Nat} (j : (⟨1, ![n]⟩ : Shape).Idx) (k : Fin n) : j.along 0 k = ix1 k := by
  funext a
  match a with
  | ⟨0, _⟩ => exact Function.update_self _ _ _

/-- Replacing a two-axis index's second coordinate. -/
theorem along2 {m n : Nat} (j : (⟨2, ![m, n]⟩ : Shape).Idx) (k : Fin n) : j.along 1 k = ix2 (j 0) k := by
  funext a
  match a with
  | ⟨0, _⟩ => exact Function.update_of_ne (fun h => absurd (congrArg Fin.val h) Nat.zero_ne_one) _ _
  | ⟨1, _⟩ => exact Function.update_self _ _ _

/-- A two-operand sort of a column by the first operand's greater-than, with the sorting permutation named. -/
theorem sort2_1 {n : Nat} (x : FVec Ideal ⟨1, ![n]⟩ .f32) (y : IVec ⟨1, ![n]⟩ 32) :
    Host.sort2 ⟨1, ![n]⟩ 0 (fun l r => FloatOps.cmpfTotal (F := Ideal) (φ := .f32) CmpDirection.gt l.1 r.1) x y
      = (fun j => x (ix1 (srt (fun i => x (ix1 i)) (j 0))), fun j => y (ix1 (srt (fun i => x (ix1 i)) (j 0)))) := by
  have h : ∀ (j : (⟨1, ![n]⟩ : Shape).Idx),
      sortedFrom (fun k k' : Fin n => (FloatOps.cmpfTotal (F := Ideal) (φ := .f32) CmpDirection.gt (x (j.along 0 k))
        (x (j.along 0 k'))) == 1#1) = srt (fun i => x (ix1 i)) := by
    intro j
    rw [← sortedFrom_gt]
    simp only [along1]
  unfold Host.sort2
  rw [dif_pos (show 0 < (⟨1, ![n]⟩ : Shape).rank from Nat.zero_lt_one)]
  refine Prod.ext (funext fun j => ?_) (funext fun j => ?_)
  · exact congrArg x ((along1 j _).trans (congrArg ix1 (congrFun (h j) (j 0))))
  · exact congrArg y ((along1 j _).trans (congrArg ix1 (congrFun (h j) (j 0))))

/-- The same sort along the second axis of a table. -/
theorem sort2_2 {m n : Nat} (x : FVec Ideal ⟨2, ![m, n]⟩ .f32) (y : IVec ⟨2, ![m, n]⟩ 32) :
    Host.sort2 ⟨2, ![m, n]⟩ 1 (fun l r => FloatOps.cmpfTotal (F := Ideal) (φ := .f32) CmpDirection.gt l.1 r.1) x y
      = (fun j => x (ix2 (j 0) (srt (fun i => x (ix2 (j 0) i)) (j 1))),
         fun j => y (ix2 (j 0) (srt (fun i => x (ix2 (j 0) i)) (j 1)))) := by
  have h : ∀ (j : (⟨2, ![m, n]⟩ : Shape).Idx),
      sortedFrom (fun k k' : Fin n => (FloatOps.cmpfTotal (F := Ideal) (φ := .f32) CmpDirection.gt (x (j.along 1 k))
        (x (j.along 1 k'))) == 1#1) = srt (fun i => x (ix2 (j 0) i)) := by
    intro j
    rw [← sortedFrom_gt]
    simp only [along2]
    rfl
  unfold Host.sort2
  rw [dif_pos (show 1 < (⟨2, ![m, n]⟩ : Shape).rank from Nat.one_lt_two)]
  refine Prod.ext (funext fun j => ?_) (funext fun j => ?_)
  · exact congrArg x ((along2 j _).trans (congrArg (ix2 (j 0)) (congrFun (h j) (j 1))))
  · exact congrArg y ((along2 j _).trans (congrArg (ix2 (j 0)) (congrFun (h j) (j 1))))

/-- The values of a top-k of a column. -/
theorem topK1_val {n k : Nat} (hk : k ≤ n) (x : FVec Ideal ⟨1, ![n]⟩ .f32) (h) (t : Fin k) :
    (Host.topK ⟨1, ![k]⟩ 0 (FloatOps.cmpfTotal (F := Ideal) (φ := .f32) CmpDirection.gt) x h).1 (ix1 t)
      = x (ix1 (srt (fun i => x (ix1 i)) (t.castLE hk))) := by
  unfold Host.topK
  simp only [sort2_1]
  unfold extractStridedSlice
  refine congrArg (fun i => x (ix1 (srt (fun i => x (ix1 i)) i))) (Fin.ext ?_)
  exact Nat.zero_add _

/-- The positions of a top-k of a column. -/
theorem topK1_idx {n k : Nat} (hk : k ≤ n) (x : FVec Ideal ⟨1, ![n]⟩ .f32) (h) (t : Fin k) :
    (Host.topK ⟨1, ![k]⟩ 0 (FloatOps.cmpfTotal (F := Ideal) (φ := .f32) CmpDirection.gt) x h).2 (ix1 t)
      = BitVec.ofNat 32 (srt (fun i => x (ix1 i)) (t.castLE hk)).val := by
  unfold Host.topK
  simp only [sort2_1]
  unfold extractStridedSlice
  refine congrArg (fun i => BitVec.ofNat 32 (srt (fun i => x (ix1 i)) i).val) (Fin.ext ?_)
  exact Nat.zero_add _

/-- The values of a top-k along the second axis of a table. -/
theorem topK2_val {m n k : Nat} (hk : k ≤ n) (x : FVec Ideal ⟨2, ![m, n]⟩ .f32) (h) (c : Fin m) (t : Fin k) :
    (Host.topK ⟨2, ![m, k]⟩ 1 (FloatOps.cmpfTotal (F := Ideal) (φ := .f32) CmpDirection.gt) x h).1 (ix2 c t)
      = x (ix2 c (srt (fun i => x (ix2 c i)) (t.castLE hk))) := by
  unfold Host.topK
  simp only [sort2_2]
  unfold extractStridedSlice
  refine congrArg₂ (fun c i => x (ix2 c (srt (fun i => x (ix2 c i)) i))) (Fin.ext ?_) (Fin.ext ?_)
  · exact Nat.zero_add _
  · exact Nat.zero_add _

/-- The positions of a top-k along the second axis of a table. -/
theorem topK2_idx {m n k : Nat} (hk : k ≤ n) (x : FVec Ideal ⟨2, ![m, n]⟩ .f32) (h) (c : Fin m) (t : Fin k) :
    (Host.topK ⟨2, ![m, k]⟩ 1 (FloatOps.cmpfTotal (F := Ideal) (φ := .f32) CmpDirection.gt) x h).2 (ix2 c t)
      = BitVec.ofNat 32 (srt (fun i => x (ix2 c i)) (t.castLE hk)).val := by
  unfold Host.topK
  simp only [sort2_2]
  unfold extractStridedSlice
  refine congrArg₂ (fun c i => BitVec.ofNat 32 (srt (fun i => x (ix2 c i)) i).val) (Fin.ext ?_) (Fin.ext ?_)
  · exact Nat.zero_add _
  · exact Nat.zero_add _

end Cert.Sort

end
-- ==== Proof.Words.lean ====
module

public import proofs.«01_k».proof.Proof.Spec
public import Idealize.ShloMosaic.Lib.Pointwise
public import Idealize.ShloMosaic.Lib.Affine
public import Idealize.ShloMosaic.Lib.Tactic.WordOmega
public import Idealize.ShloMosaic.Lib.Routing.Words
public import Idealize.ShloMosaic.Lib.Routing.OpsSet

@[expose] public section

/-! Quotients, remainders and wraps of index words. -/

namespace Cert.Words

open Idealize.ShloMosaic

/-- A small word is not negative. -/
theorem slt_zero {a : Nat} (ha : a < 2 ^ 31) : IntOp.cmpi .slt (BitVec.ofNat 32 a) 0#32 = 0#1 := by
  refine (WordCmp.cmpi_slt_ofNat (w := 32) (b := 0) ha (by decide)).trans ?_
  rfl

/-- jnp's wrap of a negative index leaves a small word as it is. -/
theorem wrap_word {a : Nat} (ha : a < 2 ^ 31) (n : BitVec 32) :
    Scalar.select (IntOp.cmpi .slt (BitVec.ofNat 32 a) 0#32) (IntOp.addi (BitVec.ofNat 32 a) n) (BitVec.ofNat 32 a)
      = BitVec.ofNat 32 a := by
  rw [slt_zero ha]; rfl

/-- A column of small indices, wrapped as jnp wraps them, holds the indices. -/
theorem wrap_col {n : Nat} (I : IVec (⟨1, ![n]⟩ : Shape) 32)
    (h1 : (⟨1, ![n]⟩ : Shape).BroadcastsInDim (⟨2, ![n, 1]⟩ : Shape) (![0] : Fin 1 → Fin 2))
    (h0 : (⟨0, ![]⟩ : Shape).BroadcastsInDim (⟨1, ![n]⟩ : Shape) (![] : Fin 0 → Fin 1)) (w : BitVec 32) (t : Fin n) (a : Nat)
    (ha : a < 2 ^ 31) (hI : I (ix1 t) = BitVec.ofNat 32 a) :
    broadcastInDim (⟨2, ![n, 1]⟩ : Shape) ![0] h1
      (select (cmpi .slt I (broadcastInDim (⟨1, ![n]⟩ : Shape) ![] h0 (constantI (⟨0, ![]⟩ : Shape) 32 0#32)))
        (addi I (broadcastInDim (⟨1, ![n]⟩ : Shape) ![] h0 (constantI (⟨0, ![]⟩ : Shape) 32 w))) I) (ix2 t (0 : Fin 1))
      = BitVec.ofNat 32 a := by
  refine (Routing.bcCol h1 _ t).trans ?_
  show Scalar.select (IntOp.cmpi .slt (I (ix1 t)) 0#32) (IntOp.addi (I (ix1 t)) w) (I (ix1 t)) = _
  rw [hI]
  exact wrap_word ha w

/-- The host's remainder, signs corrected, of a small word. -/
theorem hrem_word (u : ArithUnit) {a k : Nat} (ha : a < 2 ^ 31) (hk : 0 < k) (hk' : k < 2 ^ 31) (s : BitVec 1) (hs : s = 0#1) :
    Scalar.select
      (IntOp.andi (IntOp.cmpi .ne (IntOp.cmpi .slt (IntOp.remsi u (BitVec.ofNat 32 a) (BitVec.ofNat 32 k)) 0#32) s)
        (IntOp.cmpi .ne (IntOp.remsi u (BitVec.ofNat 32 a) (BitVec.ofNat 32 k)) 0#32))
      (IntOp.addi (IntOp.remsi u (BitVec.ofNat 32 a) (BitVec.ofNat 32 k)) (BitVec.ofNat 32 k))
      (IntOp.remsi u (BitVec.ofNat 32 a) (BitVec.ofNat 32 k)) = BitVec.ofNat 32 (a % k) := by
  have hlt := Nat.mod_lt a hk
  rw [Routing.remsi_word u ha hk hk', slt_zero (by omega), hs]
  generalize IntOp.cmpi CmpIPredicate.ne (BitVec.ofNat 32 (a % k)) 0#32 = z
  have : ∀ z : BitVec 1, IntOp.andi (IntOp.cmpi .ne 0#1 0#1) z = 0#1 := by decide
  rw [this]; rfl

/-- The kernel's remainder, signs corrected, of a small word. -/
theorem krem_word (u : ArithUnit) {a k : Nat} (ha : a < 2 ^ 31) (hk : 0 < k) (hk' : k < 2 ^ 31) (s : BitVec 1) (hs : s = 0#1) :
    Scalar.select
      (IntOp.andi (IntOp.xori (IntOp.cmpi .slt (IntOp.remsi u (BitVec.ofNat 32 a) (BitVec.ofNat 32 k)) 0#32) s)
        (IntOp.cmpi .ne (IntOp.remsi u (BitVec.ofNat 32 a) (BitVec.ofNat 32 k)) 0#32))
      (IntOp.addi (IntOp.remsi u (BitVec.ofNat 32 a) (BitVec.ofNat 32 k)) (BitVec.ofNat 32 k))
      (IntOp.remsi u (BitVec.ofNat 32 a) (BitVec.ofNat 32 k)) = BitVec.ofNat 32 (a % k) := by
  have hlt := Nat.mod_lt a hk
  rw [Routing.remsi_word u ha hk hk', slt_zero (by omega), hs]
  generalize IntOp.cmpi CmpIPredicate.ne (BitVec.ofNat 32 (a % k)) 0#32 = z
  have : ∀ z : BitVec 1, IntOp.andi (IntOp.xori 0#1 0#1) z = 0#1 := by decide
  rw [this]; rfl

/-- The kernel's quotient, rounded down, of a small word: the sign of a positive number is 1, and zero has no remainder. -/
theorem kdiv_word (u : ArithUnit) {a k : Nat} (ha : a < 2 ^ 31) (hk : 0 < k) (hk' : k < 2 ^ 31) (s : BitVec 32) (hs : s = 1#32) :
    Scalar.select
      (IntOp.andi
        (IntOp.cmpi .ne
          (IntOp.subi (BitVec.setWidth 32 (IntOp.cmpi .sgt (BitVec.ofNat 32 a) 0#32))
            (BitVec.setWidth 32 (IntOp.cmpi .slt (BitVec.ofNat 32 a) 0#32))) s)
        (IntOp.cmpi .ne (IntOp.remsi u (BitVec.ofNat 32 a) (BitVec.ofNat 32 k)) 0#32))
      (IntOp.subi (IntOp.divsi u (BitVec.ofNat 32 a) (BitVec.ofNat 32 k)) 1#32)
      (IntOp.divsi u (BitVec.ofNat 32 a) (BitVec.ofNat 32 k)) = BitVec.ofNat 32 (a / k) := by
  rw [Routing.remsi_word u ha hk hk', slt_zero ha, hs, Routing.divsi_word u ha hk hk']
  have hsg : IntOp.cmpi .sgt (BitVec.ofNat 32 a) 0#32 = BitVec.ofBool (decide (0 < a)) :=
    WordCmp.cmpi_sgt_ofNat (w := 32) (b := 0) ha (by decide)
  rw [hsg]
  rcases Nat.eq_zero_or_pos a with rfl | hp
  · rw [Nat.zero_mod]
    have : ∀ x y : BitVec 32, Scalar.select (IntOp.andi
        (IntOp.cmpi .ne (IntOp.subi (BitVec.setWidth 32 (BitVec.ofBool (decide (0 < 0)))) (BitVec.setWidth 32 0#1)) 1#32)
        (IntOp.cmpi .ne (BitVec.ofNat 32 0) 0#32)) x y = y := fun x y => rfl
    exact this _ _
  · rw [decide_eq_true hp]
    generalize IntOp.cmpi CmpIPredicate.ne (BitVec.ofNat 32 (a % k)) 0#32 = z
    have : ∀ z : BitVec 1, IntOp.andi
        (IntOp.cmpi .ne (IntOp.subi (BitVec.setWidth 32 (BitVec.ofBool true)) (BitVec.setWidth 32 0#1)) 1#32) z = 0#1 := by decide
    rw [this]; rfl

/-- A one-hot entry: 1 where two small words agree and 0 elsewhere. -/
theorem hot (p : Prop) [Decidable p] :
    (FloatOps.sitofp (F := Ideal) .f32 (BitVec.setWidth 32 (BitVec.ofBool (decide p))) : EReal) = if p then 1 else 0 := by
  by_cases h : p
  · rw [if_pos h, decide_eq_true h]
    show (((BitVec.setWidth 32 (BitVec.ofBool true)).toInt : ℝ) : EReal) = 1
    have : (BitVec.setWidth 32 (BitVec.ofBool true)).toInt = 1 := by decide
    rw [this]; simp
  · rw [if_neg h, decide_eq_false h]
    show (((BitVec.setWidth 32 (BitVec.ofBool false)).toInt : ℝ) : EReal) = 0
    have : (BitVec.setWidth 32 (BitVec.ofBool false)).toInt = 0 := by decide
    rw [this]; simp

/-- Two small words are compared by their numbers. -/
theorem eq_word {a b : Nat} (ha : a < 2 ^ 32) (hb : b < 2 ^ 32) :
    IntOp.cmpi .eq (BitVec.ofNat 32 a) (BitVec.ofNat 32 b) = BitVec.ofBool (decide (a = b)) :=
  WordCmp.cmpi_eq_ofNat (w := 32) ha hb

end Cert.Words
-- ==== Proof.KerHost.lean ====
module

public import proofs.«01_k».proof.Proof.TopK
public import proofs.«01_k».proof.Proof.Detect
public import proofs.«01_k».proof.Proof.Words
public import proofs.«01_k».proof.Proof.Gen.KernelIdeal.Frame
public import Idealize.ShloMosaic.Lib.ValueIdx
public import Idealize.ShloMosaic.PureOps.Ideal.Laws
public import Idealize.ShloMosaic.Lib.Routing.OpsSet
public import Idealize.ShloMosaic.Lib.StableHlo.ReadAt

@[expose] public section

noncomputable section

/-! The host's two-level selection between the kernel's two calls. -/

namespace Cert.KernelIdeal.Value

open Idealize.ShloMosaic Idealize.ShloMosaic.TcCoe Idealize.SL.Sem
open Idealize.ShloMosaic.StableHlo
open Cert.KernelIdeal.Gen
open Cert.Spec Cert.Sort Cert.Words

variable (V : Valuation τ sig (Elt Ideal))

/-- The kernel's flat scores. -/
def flat (n : Fin 400000) : EReal :=
  V (Proc.devRef .tc main_v0) (ix2 (⟨n.val / 80, by omega⟩ : Fin 5000) (⟨n.val % 80, by omega⟩ : Fin 80))

/-- The scores as sixteen chunks. -/
def tab : FVec Ideal S16x25000 .f32 := fun i =>
  V (Proc.devRef .tc main_v0) (ix2 (⟨((i 0).val * 25000 + (i 1).val) / 80, by have h0 : (i 0).val < 16 := (i 0).isLt; have h1 : (i 1).val < 25000 := (i 1).isLt; omega⟩ : Fin 5000)
    (⟨((i 0).val * 25000 + (i 1).val) % 80, by omega⟩ : Fin 80))

theorem tab_at (c : Fin 16) (g : Fin 25000) : tab V (ix2 c g) = flat V (glob c g) := by
  have e : c.val * 25000 + g.val = 25000 * c.val + g.val := by omega
  unfold tab flat glob
  exact congrArg₂ (fun a b => V (Proc.devRef .tc main_v0) (ix2 a b))
    (Fin.ext (congrArg (· / 80) e)) (Fin.ext (congrArg (· % 80) e))

/-- The candidates' scores. -/
def vals : FVec Ideal S16000 .f32 := fun i =>
  (Host.topK S16x1000 1 (FloatOps.cmpfTotal .gt) (tab V) sliceFits_S16x25000_S16x1000).1
    (ix2 (⟨(i 0).val / 1000, by have h0 : (i 0).val < 16000 := (i 0).isLt; omega⟩ : Fin 16) (⟨(i 0).val % 1000, by omega⟩ : Fin 1000))

theorem vals_at (s : Fin 16000) : vals V (ix1 s) = flat V (cand (flat V) s) := by
  refine (topK2_val (m := 16) (n := 25000) (k := 1000) (by omega) (tab V) sliceFits_S16x25000_S16x1000 _ _).trans ?_
  simp only [tab_at]
  rfl

/-- The flat number of the candidate of rank `t`. -/
def sel (t : Fin 1000) : Fin 400000 := cand (flat V) (srt (fun s => flat V (cand (flat V) s)) (t.castLE (by omega)))

theorem vals_eq : (fun s => vals V (ix1 s)) = fun s => flat V (cand (flat V) s) := funext (vals_at V)

/-- The candidates' words. -/
def words : IVec S16000 32 := fun i =>
  IntOp.addi ((Host.topK S16x1000 1 (FloatOps.cmpfTotal .gt) (tab V) sliceFits_S16x25000_S16x1000).2
    (ix2 (⟨(i 0).val / 1000, by have h0 : (i 0).val < 16000 := (i 0).isLt; omega⟩ : Fin 16) (⟨(i 0).val % 1000, by omega⟩ : Fin 1000)))
    (IntOp.muli (BitVec.ofNat 32 ((i 0).val / 1000)) 25000#32)

theorem words_at (s : Fin 16000) : words V (ix1 s) = BitVec.ofNat 32 (cand (flat V) s).val := by
  have h := topK2_idx (m := 16) (n := 25000) (k := 1000) (by omega) (tab V) sliceFits_S16x25000_S16x1000
    (⟨s.val / 1000, by omega⟩ : Fin 16) (⟨s.val % 1000, by omega⟩ : Fin 1000)
  simp only [tab_at] at h
  have e : (cand (flat V) s).val = (srt (fun g => flat V (glob (⟨s.val / 1000, by omega⟩ : Fin 16) g)) (⟨s.val % 1000, by omega⟩ : Fin 25000)).val
      + s.val / 1000 * 25000 := by
    show 25000 * (s.val / 1000) + _ = _
    rw [Nat.add_comm, Nat.mul_comm]
  rw [e, BitVec.ofNat_add, BitVec.ofNat_mul]
  exact congrArg (fun w => IntOp.addi w (IntOp.muli (BitVec.ofNat 32 (s.val / 1000)) 25000#32)) h

/-- The selection's values. -/
theorem values0_at (t : Fin 1000) : after hostOps1 V (Proc.devRef .tc main_values_0) (ix1 t) = flat V (sel V t) := by
  after_reads_at
  refine (topK1_val (n := 16000) (k := 1000) (by omega) (vals V) sliceFits_S16000_S1000 t).trans ?_
  rw [vals_at, vals_eq]
  rfl

/-- The selection's words. -/
theorem v16_at (t : Fin 1000) : after hostOps1 V (Proc.devRef .tc main_v16) (ix1 t) = BitVec.ofNat 32 (sel V t).val := by
  after_reads_at
  have hi := topK1_idx (n := 16000) (k := 1000) (by omega) (vals V) sliceFits_S16000_S1000 t
  have hw := wrap_col _ bcast_S1000_S1000x1_0 bcast_S_S1000 16000#32 t _ (by omega) hi
  refine (Routing.gather_take1 gather_S16000_S1000x1_S1000_n_0_n_n_0_1_1 rfl rfl rfl rfl (words V) _ t _ hw (by decide)).trans ?_
  refine (words_at V _).trans ?_
  rw [vals_eq]
  rfl

/-- Which selected values are above nought. -/
theorem v18_at (t : Fin 1000) : after hostOps1 V (Proc.devRef .tc main_v18) (ix1 t)
    = FloatOps.cmpf .ogt (flat V (sel V t)) (cst 0#32) := by
  rw [← values0_at]
  after_reads_at

theorem cst4_at : after hostOps1 V (Proc.devRef .tc main_cst_4) ix0 = cst 0xBF800000#32 := by
  after_reads_at

/-- The selected scores: the value where it is above nought, minus one elsewhere. -/
theorem v19_at (t : Fin 1000) : after hostOps1_1 V (Proc.devRef .tc main_v19) (ix1 t)
    = Scalar.select (V (Proc.devRef .tc main_v18) (ix1 t)) (V (Proc.devRef .tc main_values_0) (ix1 t)) (V (Proc.devRef .tc main_cst_4) ix0) := by
  after_reads_at
  rfl

/-- The table: a proposal, then its regression entries. -/
theorem table_prop (r : Fin 5000) (i : Fin 4) : after hostOps1_2 V (Proc.devRef .tc main_v20) (ix2 r (⟨i.val, by omega⟩ : Fin 328))
    = V (Proc.devRef .tc main_arg2) (ix2 r i) := by
  after_reads_at

theorem table_reg (r : Fin 5000) (i : Fin 324) : after hostOps1_2 V (Proc.devRef .tc main_v20) (ix2 r (⟨4 + i.val, by omega⟩ : Fin 328))
    = V (Proc.devRef .tc main_arg1) (ix2 r i) := by
  after_reads_at

theorem v21_at (t : Fin 1000) : after hostOps1_2 V (Proc.devRef .tc main_v21) (ix2 t (0 : Fin 1)) = V (Proc.devRef .tc main_v16) (ix1 t) := by
  after_reads_at

theorem v22_at (t : Fin 1000) : after hostOps1_2 V (Proc.devRef .tc main_v22) (ix2 (0 : Fin 1) t) = V (Proc.devRef .tc main_v19) (ix1 t) := by
  after_reads_at

end Cert.KernelIdeal.Value

end
-- ==== Proof.KerStage.lean ====
module

public import proofs.«01_k».proof.Proof.Gen.KernelIdeal.Frame
public import Idealize.ShloMosaic.Lib.Pipeline.ValueKit

@[expose] public section

set_option maxRecDepth 16384

noncomputable section

namespace Cert.KernelIdeal.Stage

open Idealize.ShloMosaic Idealize.ShloMosaic.TcCoe
open Cert.KernelIdeal.Gen

/-- The column numbers of a square of a thousand. -/
def lane : IVec S1000x1000 32 := iota .tc S1000x1000 32 [1] iota_S1000x1000_d1_w32

variable (x0 : Vec Ideal S5000x328 .f32) (x1 : Vec Ideal S1000x1 .i32) (x2 : Vec Ideal S1x1000 .f32)

/-- The first four blocks' share of the picked rows. -/
def part : FVec Ideal S1000x328 .f32 :=
  k1_pay6 (k1_pay3 (F := Ideal) x1) lane k1_pay5
    (View.ld (e' := .f32) x0 (Rect.unit (s := S5000x328) ![0, 0] S1000x328.size inb_S5000x328_S1000x328_0_0))
    (View.ld (e' := .f32) x0 (Rect.unit (s := S5000x328) ![1000, 0] S1000x328.size inb_S5000x328_S1000x328_1000_0))
    (View.ld (e' := .f32) x0 (Rect.unit (s := S5000x328) ![2000, 0] S1000x328.size inb_S5000x328_S1000x328_2000_0))
    (View.ld (e' := .f32) x0 (Rect.unit (s := S5000x328) ![3000, 0] S1000x328.size inb_S5000x328_S1000x328_3000_0))

/-- The last block. -/
def fifth : Vec Ideal S1000x328 .f32 :=
  View.ld (e' := .f32) x0 (Rect.unit (s := S5000x328) ![4000, 0] S1000x328.size inb_S5000x328_S1000x328_4000_0)

/-- The column numbers counted from the last block's start. -/
def tag : IVec S1000x1000 32 := k1_pay7 lane
/-- The wanted row numbers, along each row. -/
def want : IVec S1000x1000 32 := k1_pay8 (k1_pay3 (F := Ideal) x1)
/-- The class of each candidate. -/
def cls : IVec S1000x1 32 := k1_pay4 (F := Ideal) x1
/-- The proposals' widths. -/
def wide : FVec Ideal S1000x1 .f32 := k1_pay12 (part x0 x1) tag (want x1) (fifth x0)
/-- The proposals' heights. -/
def high : FVec Ideal S1000x1 .f32 := k1_pay13 (part x0 x1) tag (want x1) (fifth x0)
/-- The proposals' horizontal centres. -/
def midx : FVec Ideal S1000x1 .f32 := k1_pay14 (part x0 x1) tag (want x1) (fifth x0)
/-- The proposals' vertical centres. -/
def midy : FVec Ideal S1000x1 .f32 := k1_pay15 (part x0 x1) tag (want x1) (fifth x0)
/-- The picked rows' regression entries. -/
def regs : FVec Ideal S1000x324 .f32 := k1_pay16 (part x0 x1) tag (want x1) (fifth x0)
/-- The class after the background one. -/
def next : IVec S1000x1 32 := k1_pay18 (cls x1)
/-- The logarithm of the width's scale. -/
def logw : FVec Ideal S1000x1 .f32 := k1_pay20 (regs x0 x1) k1_pay17 (next x1)
/-- The logarithm of the height's scale. -/
def logh : FVec Ideal S1000x1 .f32 := k1_pay21 (regs x0 x1) k1_pay17 (next x1)
/-- The decoded horizontal centre. -/
def decx : FVec Ideal S1000x1 .f32 := k1_pay22 (wide x0 x1) (midx x0 x1) (regs x0 x1) k1_pay17 (next x1)
/-- The decoded vertical centre. -/
def decy : FVec Ideal S1000x1 .f32 := k1_pay23 (high x0 x1) (midy x0 x1) (regs x0 x1) k1_pay17 (next x1)
/-- The boxes the second call leaves. -/
def boxes : FVec Ideal S1000x4 .f32 := k1_pay30 (wide x0 x1) (high x0 x1) (logw x0 x1) (logh x0 x1) (decx x0 x1) (decy x0 x1)
/-- The shifted left edges. -/
def e0 : FVec Ideal S1000x1 .f32 := k1_pay32 (cls x1) (wide x0 x1) (logw x0 x1) (decx x0 x1)
/-- The shifted upper edges. -/
def e1 : FVec Ideal S1000x1 .f32 := k1_pay33 (cls x1) (high x0 x1) (logh x0 x1) (decy x0 x1)
/-- The shifted right edges. -/
def e2 : FVec Ideal S1000x1 .f32 := k1_pay34 (cls x1) (wide x0 x1) (logw x0 x1) (decx x0 x1)
/-- The shifted lower edges. -/
def e3 : FVec Ideal S1000x1 .f32 := k1_pay35 (cls x1) (high x0 x1) (logh x0 x1) (decy x0 x1)
/-- The shifted boxes' areas. -/
def area : FVec Ideal S1000x1 .f32 :=
  k1_pay36 (cls x1) (wide x0 x1) (high x0 x1) (logw x0 x1) (logh x0 x1) (decx x0 x1) (decy x0 x1)
/-- The square of bits saying which box removes which. -/
def over : FVec Ideal S1000x1000 .f32 := k1_pay37 (e0 x0 x1) (e1 x0 x1) (e2 x0 x1) (e3 x0 x1) (area x0 x1)
/-- The bits the walk starts from. -/
def begin0 : FVec Ideal S1x1000 .f32 := k1_pay38 x2

/-- The bits after `k` turns of the walk. -/
def turn (o : FVec Ideal S1000x1000 .f32) (b : FVec Ideal S1x1000 .f32) : ℕ → FVec Ideal S1x1000 .f32
  | 0 => b
  | k + 1 => if h : k < k1_t1_loop.trips then
      k1_pay1 ⟨k, h⟩ (turn o b k) (View.ld (e' := .f32) o (Rect.unit (s := S1000x1000) (k1_off1 ⟨k, h⟩) S1x1000.size (k1_off1_inb ⟨k, h⟩)))
    else turn o b k

end Cert.KernelIdeal.Stage

end
-- ==== Proof.KerReg.lean ====
module

public import proofs.«01_k».proof.Proof.KerStage
public import Idealize.ShloMosaic.Lib.Pipeline.ReadBack
public import Idealize.ShloMosaic.Lib.VecWindow
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal.Gen

variable (m : (ℓ : Loc nD τ sig) → Buf (Elt Ideal) ℓ) (ρ : Dev nD → PrngReg) (c : Dev nD)

/-- The first call's only point. -/
def pt0 : Fin cfg0.N := ⟨0, by decide⟩
/-- The second call's only point. -/
def pt1 : Fin cfg1.N := ⟨0, by decide⟩

/-- The first call leaves its body's scores of the first argument. -/
theorem scores_array : W1 m ρ c (Proc.devRef .tc main_v0) = k0_pay1 (m ((c.tc : Thread nD τ).loc main_arg0)) := by
  refine (W1_arr m ρ c 1).trans ?_
  refine (dat0 (V0 m ρ) c).arrAt_eq_of_after_last 1 pt0 (by decide +kernel) _ fun j => ?_
  blk_simp
  rw [after0_1]
  frame_out
  refine congrFun (congrArg k0_pay1 (funext fun y => ?_)) j
  blk_simp [iblk0]
  first | rfl | (refine congrArg (m _) (funext fun a => Fin.ext ?_); fin_cases a <;> first | rfl | (simp; decide +kernel))

/-- The second call's first operand is read whole. -/
theorem whole0 (V : (c : Dev nD) → (b : Ref sig .tc) → Buf (Elt Ideal) ((c : Thread nD τ).loc b)) :
    iblk1 V c 0 pt1 = V c main_v20 := by
  funext y
  blk_simp [iblk1]
  refine congrArg (V c main_v20) (funext fun a => Fin.ext ?_)
  fin_cases a <;> (simp; decide +kernel)

theorem whole1 (V : (c : Dev nD) → (b : Ref sig .tc) → Buf (Elt Ideal) ((c : Thread nD τ).loc b)) :
    iblk1 V c 1 pt1 = V c main_v21 := by
  funext y
  blk_simp [iblk1]
  refine congrArg (V c main_v21) (funext fun a => Fin.ext ?_)
  fin_cases a <;> (simp; decide +kernel)

theorem whole2 (V : (c : Dev nD) → (b : Ref sig .tc) → Buf (Elt Ideal) ((c : Thread nD τ).loc b)) :
    iblk1 V c 2 pt1 = V c main_v22 := by
  funext y
  blk_simp [iblk1]
  refine congrArg (V c main_v22) (funext fun a => Fin.ext ?_)
  fin_cases a <;> (simp; decide +kernel)

/-- The second call's boxes. -/
theorem boxes_array (V : (c : Dev nD) → (b : Ref sig .tc) → Buf (Elt Ideal) ((c : Thread nD τ).loc b)) :
    (dat1 V c).arrAt 3 cfg1.N = Stage.boxes (V c main_v20) (V c main_v21) := by
  refine (dat1 V c).arrAt_eq_of_after_last 3 pt1 (by decide +kernel) _ fun j => ?_
  blk_simp
  rw [after1_3]
  dsimp only [outsAt1]
  frame_out
  simp only [read_unread_whole]
  rw [← whole0 c V, ← whole1 c V]
  generalize iblk1 V c 0 pt1 = X0
  generalize iblk1 V c 1 pt1 = X1
  rfl

/-- One turn of the walk, over any buffers. -/
theorem trip_eq (𝒱 : Variants) (bd : Option 𝒱.V) (arg0 : Memref sig .tc .vmem S5000x328 .f32) (harg0 : arg0.IsWhole) (arg1 : Memref sig .tc .vmem S1000x1 .i32) (harg1 : arg1.IsWhole) (arg2 : Memref sig .tc .vmem S1x1000 .f32) (harg2 : arg2.IsWhole) (arg3 : Memref sig .tc .vmem S1000x4 .f32) (harg3 : arg3.IsWhole) (arg4 : Memref sig .tc .vmem S1x1000 .f32) (harg4 : arg4.IsWhole) (arg5 : Memref sig .tc .vmem S1000x1000 .f32) (harg5 : arg5.IsWhole) (X : BufTy.Contents (Elt Ideal) arg5.view.ty) (k : Fin k1_t1_loop.trips) (a : FVec Ideal S1x1000 .f32) :
    tripR_k1_t1 (F := Ideal) 𝒱 c bd arg0 harg0 arg1 harg1 arg2 harg2 arg3 harg3 arg4 harg4 arg5 harg5 X k a
      = k1_pay1 k a (View.readAt (Elt Ideal) arg5.view (Rect.unit (s := S1000x1000) (k1_off1 k) S1x1000.size (k1_off1_inb k)).toLoadRect X) := by
  delta tripR_k1_t1 trip_k1_t1
  rfl

/-- The walk over a buffer reading as `o`. -/
theorem walk_eq (𝒱 : Variants) (bd : Option 𝒱.V) (arg0 : Memref sig .tc .vmem S5000x328 .f32) (harg0 : arg0.IsWhole) (arg1 : Memref sig .tc .vmem S1000x1 .i32) (harg1 : arg1.IsWhole) (arg2 : Memref sig .tc .vmem S1x1000 .f32) (harg2 : arg2.IsWhole) (arg3 : Memref sig .tc .vmem S1000x4 .f32) (harg3 : arg3.IsWhole) (arg4 : Memref sig .tc .vmem S1x1000 .f32) (harg4 : arg4.IsWhole) (arg5 : Memref sig .tc .vmem S1000x1000 .f32) (harg5 : arg5.IsWhole) (X : BufTy.Contents (Elt Ideal) arg5.view.ty) (o : FVec Ideal S1000x1000 .f32)
    (hX : arg5.view.read (Elt Ideal) X = o) (b : FVec Ideal S1x1000 .f32) (k : ℕ) :
    st_k1_t1 (F := Ideal) 𝒱 c bd arg0 harg0 arg1 harg1 arg2 harg2 arg3 harg3 arg4 harg4 arg5 harg5 X b k = Stage.turn o b k := by
  induction k with
  | zero => rfl
  | succ k ih =>
    rw [st_k1_t1.eq_2, Stage.turn]
    unfold st_k1_t1Step
    split
    · rw [trip_eq, View.readAt_eq_ld, hX, ih]
    · exact ih

/-- The second call's bits. -/
theorem keep_array (V : (c : Dev nD) → (b : Ref sig .tc) → Buf (Elt Ideal) ((c : Thread nD τ).loc b)) :
    (dat1 V c).arrAt 4 cfg1.N
      = Stage.turn (Stage.over (V c main_v20) (V c main_v21)) (Stage.begin0 (V c main_v22)) 1000 := by
  refine (dat1 V c).arrAt_eq_of_after_last 4 pt1 (by decide +kernel) _ fun j => ?_
  blk_simp
  rw [after1_4]
  dsimp only [outsAt1]
  frame_out
  simp only [read_unread_whole]
  rw [← whole0 c V, ← whole1 c V, ← whole2 c V]
  generalize iblk1 V c 0 pt1 = X0
  generalize iblk1 V c 1 pt1 = X1
  generalize iblk1 V c 2 pt1 = X2
  exact congrFun (walk_eq c _ _ _ _ _ _ _ _ _ _ _ _ _ _ _ (Stage.over X0 X1) (View.read_writes_full _ _ _ _ _) _ _) j

end Cert.KernelIdeal.Value

end
-- ==== Proof.KerScore.lean ====
module

public import proofs.«01_k».proof.Proof.Order
public import proofs.«01_k».proof.Proof.KerHost
public import proofs.«01_k».proof.Proof.KerReg
public import Idealize.ShloMosaic.Lib.Pointwise

@[expose] public section

noncomputable section

/-! The kernel's first call writes the scores with the numbered fill. -/

namespace Cert.KernelIdeal.Value

open Idealize.ShloMosaic Idealize.ShloMosaic.TcCoe Idealize.SL.Sem
open Cert.KernelIdeal.Gen
open Cert.Spec

/-- One entry of the first call's array. -/
theorem pay_at (x : Vec Ideal S5000x81 .f32) (b : Fin 5000) (c : Fin 80) :
    k0_pay1 x (ix2 b c) = score (prob (fun i => x (ix2 b i)) ⟨1 + c.val, by omega⟩)
      (FloatOps.subf (cst 0xBF800000#32) (FloatOps.mulf (FloatOps.sitofp .f32 (BitVec.ofNat 32 b.val * 80#32 + BitVec.ofNat 32 c.val)) (cst 0x3727C5AC#32))) := by
  unfold k0_pay1
  unfold score prob ex mx
  pointwise
  rfl

/-- The word of a flat number, read as a real number. -/
theorem number_word (n : Fin 400000) :
    (FloatOps.sitofp (F := Ideal) .f32 (BitVec.ofNat 32 (n.val / 80) * 80#32 + BitVec.ofNat 32 (n.val % 80)) : EReal) = ((n.val : ℝ) : EReal) := by
  have e : BitVec.ofNat 32 (n.val / 80) * 80#32 + BitVec.ofNat 32 (n.val % 80) = BitVec.ofNat 32 n.val := by
    rw [← BitVec.ofNat_mul, ← BitVec.ofNat_add]
    congr 1
    omega
  have t : (BitVec.ofNat 32 n.val).toInt = (n.val : Int) := by
    have hn := n.isLt
    rw [BitVec.toInt_ofNat', Int.bmod_def]
    split <;> omega
  rw [e]
  show (((BitVec.ofNat 32 n.val).toInt : ℝ) : EReal) = _
  rw [t, Int.cast_natCast]

variable (m : (ℓ : Loc nD τ sig) → Buf (Elt Ideal) ℓ) (ρ : Dev nD → PrngReg) (c : Dev nD)

/-- The first argument's entries. -/
def arg0 (b : Fin 5000) (i : Fin 81) : EReal := m ((c.tc : Thread nD τ).loc main_arg0) (ix2 b i)
/-- The second argument's entries. -/
def arg1 (b : Fin 5000) (i : Fin 324) : EReal := m ((c.tc : Thread nD τ).loc main_arg1) (ix2 b i)
/-- The third argument's entries. -/
def arg2 (b : Fin 5000) (i : Fin 4) : EReal := m ((c.tc : Thread nD τ).loc main_arg2) (ix2 b i)

/-- The flat scores after the first call. -/
theorem flat_scores : flat (W1 m ρ c) = scores (arg0 m c) fill := by
  funext n
  unfold flat
  rw [scores_array]
  refine (pay_at _ _ _).trans ?_
  exact congrArg (fun w : EReal => score (prob (arg0 m c ⟨n.val / 80, by omega⟩) ⟨1 + n.val % 80, by omega⟩)
    (cst 0xBF800000#32 - w * cst 0x3727C5AC#32)) (number_word n)

end Cert.KernelIdeal.Value

end
-- ==== Proof.KerPick.lean ====
module

public import proofs.«01_k».proof.Proof.KerStage
public import proofs.«01_k».proof.Proof.Words
public import Idealize.ShloMosaic.Lib.Pointwise
public import Idealize.ShloMosaic.PureOps.Ideal.Laws

@[expose] public section

noncomputable section

/-! What the second call picks: the row of the table, the class, and the class's four regression entries. -/

namespace Cert.KernelIdeal.Stage

open Idealize.ShloMosaic Idealize.ShloMosaic.TcCoe
open Cert.KernelIdeal.Gen

variable (x0 : Vec Ideal S5000x328 .f32) (x1 : Vec Ideal S1000x1 .i32)

theorem row_word (t : Fin 1000) (a : ℕ) (ha : a < 2 ^ 31) (h : x1 (ix2 t (0 : Fin 1)) = BitVec.ofNat 32 a) :
    k1_pay3 (F := Ideal) x1 (ix2 t (0 : Fin 1)) = BitVec.ofNat 32 (a / 80) := by
  unfold k1_pay3 k1_pay2
  pointwise
  rw [h]
  exact Words.kdiv_word _ ha (by omega) (by omega) _ (by decide)

theorem class_word (t : Fin 1000) (a : ℕ) (ha : a < 2 ^ 31) (h : x1 (ix2 t (0 : Fin 1)) = BitVec.ofNat 32 a) :
    cls x1 (ix2 t (0 : Fin 1)) = BitVec.ofNat 32 (a % 80) := by
  unfold cls k1_pay4 k1_pay2
  pointwise
  rw [h]
  exact Words.krem_word _ ha (by omega) (by omega) _ (by decide)

theorem lane_at (t j : Fin 1000) : lane (ix2 t j) = BitVec.ofNat 32 j.val := by
  unfold lane
  pointwise

/-- One block's share of a picked row: the wanted row where the block has it, nought otherwise. -/
theorem share (f : Fin 5000 → EReal) (o r : ℕ) (ho : o + 1000 ≤ 5000) (hr : r < 5000) :
    (∑ x : Fin 1000, (FloatOps.sitofp (F := Ideal) .f32 (BitVec.setWidth 32
        (IntOp.cmpi .eq (IntOp.addi (BitVec.ofNat 32 x.val) (BitVec.ofNat 32 o)) (BitVec.ofNat 32 r))) : EReal) * f ⟨o + x.val, by omega⟩)
      = if o ≤ r ∧ r < o + 1000 then f ⟨r, hr⟩ else 0 := by
  have e : ∀ x : Fin 1000, IntOp.cmpi .eq (IntOp.addi (BitVec.ofNat 32 x.val) (BitVec.ofNat 32 o)) (BitVec.ofNat 32 r)
      = BitVec.ofBool (decide (x.val + o = r)) := fun x => by
    refine Eq.trans ?_ (Words.eq_word (by omega) (by omega))
    exact congrArg (fun w => IntOp.cmpi .eq w _) (BitVec.ofNat_add _ _).symm
  simp only [e, Words.hot, ite_mul, one_mul, zero_mul]
  split
  · rename_i h
    rw [Finset.sum_eq_single (⟨r - o, by omega⟩ : Fin 1000)]
    · rw [if_pos (by simp; omega)]
      exact congrArg f (Fin.ext (by simp; omega))
    · intro b _ hb
      exact if_neg fun e => hb (Fin.ext (by simp; omega))
    · intro hn; exact absurd (Finset.mem_univ _) hn
  · rename_i h
    exact Finset.sum_eq_zero fun x _ => if_neg fun e => h (by omega)

/-- Just one of the five blocks holds the row. -/
theorem five (v : EReal) (r : ℕ) (hr : r < 5000) :
    (((((if 0 ≤ r ∧ r < 1000 then v else 0) + if 1000 ≤ r ∧ r < 1000 + 1000 then v else 0) +
      if 2000 ≤ r ∧ r < 2000 + 1000 then v else 0) + if 3000 ≤ r ∧ r < 3000 + 1000 then v else 0) +
      if 4000 ≤ r ∧ r < 4000 + 1000 then v else 0) = v := by
  split_ifs <;> first | (exfalso; omega) | simp

theorem picked_row (t : Fin 1000) (a : ℕ) (ha : a < 400000) (h : x1 (ix2 t (0 : Fin 1)) = BitVec.ofNat 32 a) (j : Fin 328) :
    k1_pay9 (part x0 x1) tag (want x1) (fifth x0) (ix2 t j) = x0 (ix2 (⟨a / 80, by omega⟩ : Fin 5000) j) := by
  unfold k1_pay9 part k1_pay6 tag k1_pay7 want k1_pay8 k1_pay5 fifth
  pointwise
  rw [row_word x1 t a (by omega) h]
  simp only [lane_at]
  have hr : a / 80 < 5000 := by omega
  have s0 := share (fun r => x0 (ix2 r j)) 0 (a / 80) (by omega) hr
  simp only [Nat.zero_add] at s0
  have s1 := share (fun r => x0 (ix2 r j)) 1000 (a / 80) (by omega) hr
  have s2 := share (fun r => x0 (ix2 r j)) 2000 (a / 80) (by omega) hr
  have s3 := share (fun r => x0 (ix2 r j)) 3000 (a / 80) (by omega) hr
  have s4 := share (fun r => x0 (ix2 r j)) 4000 (a / 80) (by omega) hr
  refine (congrArg₂ (· + ·) (congrArg₂ (· + ·) (congrArg₂ (· + ·) (congrArg₂ (· + ·) s0 s1) s2) s3) s4).trans ?_
  exact five _ _ hr

theorem fourth_word (j : Fin 1000) (k : Fin 324) :
    k1_pay17 (ix2 j k) = BitVec.ofNat 32 (k.val / 4) := by
  unfold k1_pay17
  pointwise
  exact Words.kdiv_word _ (by omega) (by omega) (by omega) _ (by decide)

theorem next_word (t : Fin 1000) (a : ℕ) (ha : a < 2 ^ 31) (h : x1 (ix2 t (0 : Fin 1)) = BitVec.ofNat 32 a) :
    next x1 (ix2 t (0 : Fin 1)) = BitVec.ofNat 32 (a % 80 + 1) := by
  unfold next k1_pay18
  pointwise
  rw [class_word x1 t a ha h]
  exact (BitVec.ofNat_add _ _).symm

theorem regs_at (t : Fin 1000) (a : ℕ) (ha : a < 400000) (h : x1 (ix2 t (0 : Fin 1)) = BitVec.ofNat 32 a) (j : Fin 324) :
    regs x0 x1 (ix2 t j) = x0 (ix2 (⟨a / 80, by omega⟩ : Fin 5000) (⟨4 + j.val, by omega⟩ : Fin 328)) := by
  refine Eq.trans ?_ (picked_row x0 x1 t a ha h ⟨4 + j.val, by omega⟩)
  unfold regs k1_pay16
  pointwise

/-- The class's regression entries, picked off the row. -/
theorem picked_reg (t : Fin 1000) (a : ℕ) (ha : a < 400000) (h : x1 (ix2 t (0 : Fin 1)) = BitVec.ofNat 32 a) (j : Fin 4) :
    k1_pay19 (regs x0 x1) k1_pay17 (next x1) (ix2 t j)
      = x0 (ix2 (⟨a / 80, by omega⟩ : Fin 5000) (⟨4 + ((1 + a % 80) * 4 + j.val), by omega⟩ : Fin 328)) := by
  unfold k1_pay19
  pointwise
  rw [next_word x1 t a (by omega) h]
  simp only [fourth_word]
  refine (Finset.sum_congr rfl fun x _ => congrArg₂ (· * ·) (congrArg₂ (· * ·) (regs_at x0 x1 t a ha h x)
    ((congrArg (fun w => (FloatOps.sitofp (F := Ideal) .f32 (BitVec.setWidth 32 w) : EReal))
      (Words.eq_word (show x.val / 4 < 2 ^ 32 by omega) (show a % 80 + 1 < 2 ^ 32 by omega))).trans (Words.hot _)))
    ((congrArg (fun w => (FloatOps.sitofp (F := Ideal) .f32 (BitVec.setWidth 32 w) : EReal))
      ((congrArg (fun w => IntOp.cmpi .eq w (BitVec.ofNat 32 j.val))
        (Words.krem_word .vector (a := x.val) (k := 4) (by omega) (by omega) (by omega) _ (by decide))).trans
        (Words.eq_word (show x.val % 4 < 2 ^ 32 by omega) (show j.val < 2 ^ 32 by omega)))).trans (Words.hot _))).trans ?_
  rw [Finset.sum_eq_single (⟨(1 + a % 80) * 4 + j.val, by omega⟩ : Fin 324)]
  · rw [if_pos (by simp; omega), if_pos (by simp <;> omega), mul_one, mul_one]
  · intro b _ hb
    by_cases h1 : b.val / 4 = a % 80 + 1
    · rw [if_neg (fun e : b.val % 4 = j.val => hb (Fin.ext (by simp; omega))), mul_zero]
    · rw [if_neg h1, mul_zero, zero_mul]
  · intro hn; exact absurd (Finset.mem_univ _) hn

end Cert.KernelIdeal.Stage

end
-- ==== Proof.KerBox.lean ====
module

public import proofs.«01_k».proof.Proof.KerPick
public import proofs.«01_k».proof.Proof.Detect

@[expose] public section

noncomputable section

/-! The second call's boxes: the candidates' boxes, decoded, clipped and, for the overlaps, moved by class. -/

namespace Cert.KernelIdeal.Stage

open Idealize.ShloMosaic Idealize.ShloMosaic.TcCoe
open Cert.KernelIdeal.Gen Cert.Spec

variable (x0 : Vec Ideal S5000x328 .f32) (x1 : Vec Ideal S1000x1 .i32)

/-- The table's proposal in row `r`. -/
def prop (r : Fin 5000) (i : Fin 4) : Ideal .f32 := x0 (ix2 r (⟨i.val, by omega⟩ : Fin 328))
/-- The table's regression entries in row `r`. -/
def rege (r : Fin 5000) (i : Fin 324) : Ideal .f32 := x0 (ix2 r (⟨4 + i.val, by omega⟩ : Fin 328))
/-- The table's box for the flat number `a`. -/
def tbox (a : Fin 400000) (q : Fin 4) : Ideal .f32 :=
  box (prop x0 ⟨a.val / 80, by omega⟩) (fun i => rege x0 ⟨a.val / 80, by omega⟩ ⟨(1 + a.val % 80) * 4 + i.val, by omega⟩) q

/-- Two propositions' bits, joined. -/
theorem and_bits (p q : Prop) [Decidable p] [Decidable q] :
    IntOp.andi (BitVec.ofBool (decide p)) (BitVec.ofBool (decide q)) = BitVec.ofBool (decide (p ∧ q)) := by
  by_cases p <;> by_cases q <;> simp [*] <;> rfl

/-- Clipping against a plain nought is clipping against the pattern of nought. -/
theorem clipped (q : Fin 4) (u v : EReal) (h : u = v) :
    min (cst (lim q) : EReal) (max 0 u) = FloatOps.minimumf (cst (lim q)) (FloatOps.maximumf (cst 0#32) v) := by
  rw [h]
  exact congrArg (fun z : EReal => min (cst (lim q) : EReal) (max z v)) Ideal.ofBits_zero_f32.symm

/-- The shared area, with the noughts written last. -/
theorem inter_eq (x y : Fin 4 → Ideal .f32) :
    (max (min (x 2 : EReal) (y 2) - max (x 0 : EReal) (y 0)) 0 * max (min (x 3 : EReal) (y 3) - max (x 1 : EReal) (y 1)) 0 : EReal) = inter x y := by
  rw [max_comm _ (0 : EReal), max_comm _ (0 : EReal)]
  exact (congrArg (fun z : EReal => max z (min (x 2 : EReal) (y 2) - max (x 0 : EReal) (y 0)) * max z (min (x 3 : EReal) (y 3) - max (x 1 : EReal) (y 1)))
    Ideal.ofBits_zero_f32.symm)

variable (t : Fin 1000) (a : Fin 400000) (h : x1 (ix2 t (0 : Fin 1)) = BitVec.ofNat 32 a.val)
include h

theorem wide_at : wide x0 x1 (ix2 t (0 : Fin 1)) = ext (prop x0 ⟨a.val / 80, by omega⟩) 0 := by
  unfold wide k1_pay12 k1_pay10
  pointwise
  exact congrArg₂ FloatOps.subf (picked_row x0 x1 t a.val a.isLt h 2) (picked_row x0 x1 t a.val a.isLt h 0)

theorem high_at : high x0 x1 (ix2 t (0 : Fin 1)) = ext (prop x0 ⟨a.val / 80, by omega⟩) 1 := by
  unfold high k1_pay13 k1_pay11
  pointwise
  exact congrArg₂ FloatOps.subf (picked_row x0 x1 t a.val a.isLt h 3) (picked_row x0 x1 t a.val a.isLt h 1)

theorem midx_at : midx x0 x1 (ix2 t (0 : Fin 1)) = ctr (prop x0 ⟨a.val / 80, by omega⟩) 0 := by
  unfold midx k1_pay14 k1_pay10
  pointwise
  exact congrArg₂ FloatOps.addf (picked_row x0 x1 t a.val a.isLt h 0)
    (congrArg (FloatOps.mulf (cst 0x3F000000#32)) (wide_at x0 x1 t a h))

theorem midy_at : midy x0 x1 (ix2 t (0 : Fin 1)) = ctr (prop x0 ⟨a.val / 80, by omega⟩) 1 := by
  unfold midy k1_pay15 k1_pay11
  pointwise
  exact congrArg₂ FloatOps.addf (picked_row x0 x1 t a.val a.isLt h 1)
    (congrArg (FloatOps.mulf (cst 0x3F000000#32)) (high_at x0 x1 t a h))

theorem reg_at (q : Fin 4) : k1_pay19 (regs x0 x1) k1_pay17 (next x1) (ix2 t q)
    = rege x0 ⟨a.val / 80, by omega⟩ ⟨(1 + a.val % 80) * 4 + q.val, by omega⟩ := picked_reg x0 x1 t a.val a.isLt h q

/-- The decoded horizontal centre. -/
theorem decx_at : decx x0 x1 (ix2 t (0 : Fin 1)) = pc (prop x0 ⟨a.val / 80, by omega⟩)
    (rege x0 ⟨a.val / 80, by omega⟩ ⟨(1 + a.val % 80) * 4 + (0 : Fin 4).val, by omega⟩) 0 := by
  unfold decx k1_pay22
  pointwise
  rw [wide_at x0 x1 t a h, midx_at x0 x1 t a h]
  exact congrArg (fun d => pc (prop x0 ⟨a.val / 80, by omega⟩) d 0) (reg_at x0 x1 t a h 0)

/-- The decoded vertical centre. -/
theorem decy_at : decy x0 x1 (ix2 t (0 : Fin 1)) = pc (prop x0 ⟨a.val / 80, by omega⟩)
    (rege x0 ⟨a.val / 80, by omega⟩ ⟨(1 + a.val % 80) * 4 + (1 : Fin 4).val, by omega⟩) 1 := by
  unfold decy k1_pay23
  pointwise
  rw [high_at x0 x1 t a h, midy_at x0 x1 t a h]
  exact congrArg (fun d => pc (prop x0 ⟨a.val / 80, by omega⟩) d 1) (reg_at x0 x1 t a h 1)

/-- Half the decoded width. -/
theorem halfw_at : FloatOps.mulf (cst 0x3F000000#32) (k1_pay24 (wide x0 x1) (logw x0 x1) (ix2 t (0 : Fin 1)))
    = hw (prop x0 ⟨a.val / 80, by omega⟩)
        (rege x0 ⟨a.val / 80, by omega⟩ ⟨(1 + a.val % 80) * 4 + (2 : Fin 4).val, by omega⟩) 0 := by
  unfold k1_pay24 logw k1_pay20
  pointwise
  rw [wide_at x0 x1 t a h]
  exact congrArg (fun d => hw (prop x0 ⟨a.val / 80, by omega⟩) d 0) (reg_at x0 x1 t a h 2)

/-- Half the decoded height. -/
theorem halfh_at : FloatOps.mulf (cst 0x3F000000#32) (k1_pay25 (high x0 x1) (logh x0 x1) (ix2 t (0 : Fin 1)))
    = hw (prop x0 ⟨a.val / 80, by omega⟩)
        (rege x0 ⟨a.val / 80, by omega⟩ ⟨(1 + a.val % 80) * 4 + (3 : Fin 4).val, by omega⟩) 1 := by
  unfold k1_pay25 logh k1_pay21
  pointwise
  rw [high_at x0 x1 t a h]
  exact congrArg (fun d => hw (prop x0 ⟨a.val / 80, by omega⟩) d 1) (reg_at x0 x1 t a h 3)

theorem q0_at : k1_pay26 (wide x0 x1) (logw x0 x1) (decx x0 x1) (ix2 t (0 : Fin 1)) = tbox x0 a 0 := by
  unfold k1_pay26
  pointwise
  exact clipped 0 _ _ (congrArg₂ FloatOps.subf (decx_at x0 x1 t a h) (halfw_at x0 x1 t a h))

theorem q1_at : k1_pay27 (high x0 x1) (logh x0 x1) (decy x0 x1) (ix2 t (0 : Fin 1)) = tbox x0 a 1 := by
  unfold k1_pay27
  pointwise
  exact clipped 1 _ _ (congrArg₂ FloatOps.subf (decy_at x0 x1 t a h) (halfh_at x0 x1 t a h))

theorem q2_at : k1_pay28 (wide x0 x1) (logw x0 x1) (decx x0 x1) (ix2 t (0 : Fin 1)) = tbox x0 a 2 := by
  unfold k1_pay28
  pointwise
  exact clipped 2 _ _ (congrArg₂ FloatOps.addf (decx_at x0 x1 t a h) (halfw_at x0 x1 t a h))

theorem q3_at : k1_pay29 (high x0 x1) (logh x0 x1) (decy x0 x1) (ix2 t (0 : Fin 1)) = tbox x0 a 3 := by
  unfold k1_pay29
  pointwise
  exact clipped 3 _ _ (congrArg₂ FloatOps.addf (decy_at x0 x1 t a h) (halfh_at x0 x1 t a h))

/-- The candidates' boxes are the table's, at their flat numbers. -/
theorem boxes_at (q : Fin 4) : boxes x0 x1 (ix2 t q) = tbox x0 a q := by
  unfold boxes k1_pay30
  pointwise
  match q with
  | 0 => exact q0_at x0 x1 t a h
  | 1 => exact q1_at x0 x1 t a h
  | 2 => exact q2_at x0 x1 t a h
  | 3 => exact q3_at x0 x1 t a h

theorem offset_at : k1_pay31 (F := Ideal) (cls x1) (ix2 t (0 : Fin 1))
    = FloatOps.mulf (FloatOps.sitofp .f32 (BitVec.ofNat 32 (a.val % 80))) (cst 0x45055000#32) := by
  unfold k1_pay31
  pointwise
  rw [class_word x1 t a.val (by omega) h]

/-- The table's box for the flat number `a`, moved by its class. -/
def mbox (a : Fin 400000) (q : Fin 4) : Ideal .f32 := shift (tbox x0 a) (BitVec.ofNat 32 (a.val % 80)) q

theorem e0_at : e0 x0 x1 (ix2 t (0 : Fin 1)) = mbox x0 a 0 := by
  unfold e0 k1_pay32
  pointwise
  exact congrArg₂ FloatOps.addf (q0_at x0 x1 t a h) (offset_at x1 t a h)

theorem e1_at : e1 x0 x1 (ix2 t (0 : Fin 1)) = mbox x0 a 1 := by
  unfold e1 k1_pay33
  pointwise
  exact congrArg₂ FloatOps.addf (q1_at x0 x1 t a h) (offset_at x1 t a h)

theorem e2_at : e2 x0 x1 (ix2 t (0 : Fin 1)) = mbox x0 a 2 := by
  unfold e2 k1_pay34
  pointwise
  exact congrArg₂ FloatOps.addf (q2_at x0 x1 t a h) (offset_at x1 t a h)

theorem e3_at : e3 x0 x1 (ix2 t (0 : Fin 1)) = mbox x0 a 3 := by
  unfold e3 k1_pay35
  pointwise
  exact congrArg₂ FloatOps.addf (q3_at x0 x1 t a h) (offset_at x1 t a h)

theorem area_at : area x0 x1 (ix2 t (0 : Fin 1)) = Spec.area (mbox x0 a) := by
  unfold area k1_pay36
  pointwise
  exact congrArg₂ FloatOps.mulf (congrArg₂ FloatOps.subf (e2_at x0 x1 t a h) (e0_at x0 x1 t a h))
    (congrArg₂ FloatOps.subf (e3_at x0 x1 t a h) (e1_at x0 x1 t a h))

omit h in
/-- The square's bit at row `k`, column `t`: the overlap is above a half, and `t` comes after `k`. -/
theorem over_at (σ : Fin 1000 → Fin 400000) (hσ : ∀ t, x1 (ix2 t (0 : Fin 1)) = BitVec.ofNat 32 (σ t).val) (k t : Fin 1000) :
    over x0 x1 (ix2 k t)
      = if cst 0x3F000000#32 < (iou (mbox x0 (σ k)) (mbox x0 (σ t)) : EReal) ∧ k < t then (1 : EReal) else 0 := by
  unfold over k1_pay37
  pointwise
  simp only [e0_at x0 x1 k (σ k) (hσ k), e0_at x0 x1 t (σ t) (hσ t), e1_at x0 x1 k (σ k) (hσ k), e1_at x0 x1 t (σ t) (hσ t),
    e2_at x0 x1 k (σ k) (hσ k), e2_at x0 x1 t (σ t) (hσ t), e3_at x0 x1 k (σ k) (hσ k), e3_at x0 x1 t (σ t) (hσ t),
    area_at x0 x1 k (σ k) (hσ k), area_at x0 x1 t (σ t) (hσ t)]
  rw [inter_eq]
  refine Eq.trans ?_ (Words.hot _)
  refine congrArg (fun w => (FloatOps.sitofp (F := Ideal) .f32 (BitVec.setWidth 32 w) : EReal)) ?_
  rw [WordCmp.cmpi_sgt_ofNat (w := 32) (by omega) (by omega)]
  refine (and_bits _ _).trans (congrArg (fun b => BitVec.ofBool b) ?_)
  exact decide_eq_decide.mpr Iff.rfl

end Cert.KernelIdeal.Stage

end
-- ==== Proof.KerKeep.lean ====
module

public import proofs.«01_k».proof.Proof.KerBox

@[expose] public section

noncomputable section

/-! The second call's walk: after `k` turns the bits are the specification's survivors after `k` rows. -/

namespace Cert.KernelIdeal.Stage

open Idealize.ShloMosaic Idealize.ShloMosaic.TcCoe
open Cert.KernelIdeal.Gen Cert.Spec

theorem trips_eq : k1_t1_loop.trips = 1000 := by decide

/-- The row of the square the turn `k` loads. -/
theorem load_at (o : FVec Ideal S1000x1000 .f32) (k : Fin k1_t1_loop.trips) (j : Fin 1000) :
    View.ld (Val := Elt Ideal) (e' := .f32) o (Rect.unit (s := S1000x1000) (k1_off1 k) S1x1000.size (k1_off1_inb k)) (ix2 (0 : Fin 1) j)
      = o (ix2 (⟨k.val, trips_eq ▸ k.isLt⟩ : Fin 1000) j) := by
  refine View.ld_unit_apply_of _ _ _ _ _ _ fun a => ?_
  refine Eq.trans ?_ (congrArg (fun n => n + (ix2 (0 : Fin 1) j a).val) (congrFun (k1_off1_eq k) a).symm)
  fin_cases a <;> simp

theorem iv_eq (k : Fin k1_t1_loop.trips) : Scf.iv 0#32 1#32 k.val = BitVec.ofNat 32 k.val := by
  simp [Scf.iv]

/-- One turn at one column. -/
theorem turn_at (k : Fin k1_t1_loop.trips) (a : FVec Ideal S1x1000 .f32) (r : Vec Ideal S1x1000 .f32) (j : Fin 1000)
    (w : Fin 1000) (hw : w.val = k.val) :
    k1_pay1 k a r (ix2 (0 : Fin 1) j)
      = if (0 : EReal) < r (ix2 (0 : Fin 1) j) ∧ (0 : EReal) < a (ix2 (0 : Fin 1) w) then (0 : EReal)
        else a (ix2 (0 : Fin 1) j) := by
  unfold k1_pay1
  pointwise
  have hs : ∀ x : Fin 1000, Scalar.select (IntOp.cmpi CmpIPredicate.eq (BitVec.ofNat 32 x.val) (Scf.iv 0#32 1#32 k)) (a (ix2 (0 : Fin 1) x)) (0 : EReal)
      = if x.val = k.val then a (ix2 (0 : Fin 1) x) else 0 := fun x => by
    have hk : k.val < 1000 := trips_eq ▸ k.isLt
    rw [iv_eq, Words.eq_word (by omega) (by omega)]
    by_cases e : x.val = k.val
    · rw [if_pos e, decide_eq_true e]; rfl
    · rw [if_neg e, decide_eq_false e]; rfl
  simp only [hs]
  rw [Finset.sum_eq_single w (fun b _ hb => if_neg fun e => hb (Fin.ext (e.trans hw.symm)))
    (fun hn => absurd (Finset.mem_univ _) hn), if_pos hw]
  simp only [Finset.univ_unique, Finset.sum_const, Finset.card_singleton, one_smul]
  rw [and_bits]
  by_cases e : (0 : EReal) < r (ix2 (0 : Fin 1) j) ∧ (0 : EReal) < a (ix2 (0 : Fin 1) w)
  · rw [if_pos e, decide_eq_true e]; rfl
  · rw [if_neg e, decide_eq_false e]; rfl

/-- The walk's bits, given what the square's and the starting bits stand for. -/
theorem walk_at (o : FVec Ideal S1000x1000 .f32) (b : FVec Ideal S1x1000 .f32) (hit : Fin 1000 → Fin 1000 → Prop) (a0 : Fin 1000 → Prop)
    (ho : ∀ k t, (hit k t → o (ix2 k t) = (1 : EReal)) ∧ (¬ hit k t → o (ix2 k t) = (0 : EReal)))
    (hb : ∀ t, (a0 t → b (ix2 (0 : Fin 1) t) = (1 : EReal)) ∧ (¬ a0 t → b (ix2 (0 : Fin 1) t) = (0 : EReal)))
    (k : ℕ) (hk : k ≤ 1000) (t : Fin 1000) :
    (alive hit a0 k t → turn o b k (ix2 (0 : Fin 1) t) = (1 : EReal)) ∧ (¬ alive hit a0 k t → turn o b k (ix2 (0 : Fin 1) t) = (0 : EReal)) := by
  induction k generalizing t with
  | zero => exact hb t
  | succ k ih =>
    have hk' : k < k1_t1_loop.trips := by rw [trips_eq]; omega
    have key : turn o b (k + 1) (ix2 (0 : Fin 1) t)
        = if (0 : EReal) < o (ix2 (⟨k, by omega⟩ : Fin 1000) t) ∧ (0 : EReal) < turn o b k (ix2 (0 : Fin 1) (⟨k, by omega⟩ : Fin 1000)) then (0 : EReal)
          else turn o b k (ix2 (0 : Fin 1) t) := by
      rw [turn, dif_pos hk']
      refine (turn_at ⟨k, hk'⟩ _ _ t (⟨k, by omega⟩ : Fin 1000) rfl).trans ?_
      rw [load_at o ⟨k, hk'⟩ t]
    have h1 := ih (by omega) (⟨k, by omega⟩ : Fin 1000)
    have h2 := ho (⟨k, by omega⟩ : Fin 1000) t
    have h3 := ih (by omega) t
    rw [key]
    by_cases ha : alive hit a0 k (⟨k, by omega⟩ : Fin 1000) <;> by_cases hh : hit (⟨k, by omega⟩ : Fin 1000) t
    · rw [h1.1 ha, h2.1 hh, if_pos ⟨zero_lt_one, zero_lt_one⟩]
      exact ⟨fun h => absurd ⟨by omega, ha, hh⟩ h.2, fun _ => rfl⟩
    all_goals
      have e : alive hit a0 (k + 1) t ↔ alive hit a0 k t :=
        ⟨fun h => h.1, fun h => ⟨h, by rintro ⟨_, h4, h5⟩; contradiction⟩⟩
      rw [e, if_neg]
      · exact h3
    · rw [h2.2 hh]; exact fun h => lt_irrefl _ h.1
    · rw [h1.2 ha]; exact fun h => lt_irrefl _ h.2
    · rw [h1.2 ha]; exact fun h => lt_irrefl _ h.2

/-- The starting bits: whether the candidate's score is above nought. -/
theorem begin_at (x2 : Vec Ideal S1x1000 .f32) (t : Fin 1000) :
    ((cst 0#32 : EReal) < x2 (ix2 (0 : Fin 1) t) → begin0 x2 (ix2 (0 : Fin 1) t) = (1 : EReal))
      ∧ (¬ (cst 0#32 : EReal) < x2 (ix2 (0 : Fin 1) t) → begin0 x2 (ix2 (0 : Fin 1) t) = (0 : EReal)) := by
  have key : begin0 x2 (ix2 (0 : Fin 1) t) = if (0 : EReal) < x2 (ix2 (0 : Fin 1) t) then (1 : EReal) else 0 := by
    unfold begin0 k1_pay38
    pointwise
    exact Words.hot _
  rw [key, show (cst 0#32 : EReal) = 0 from Ideal.ofBits_zero_f32]
  exact ⟨fun h => if_pos h, fun h => if_neg h⟩

/-- The second call's bits are the specification's survivors. -/
theorem keep_at (x0 : Vec Ideal S5000x328 .f32) (x1 : Vec Ideal S1000x1 .i32) (x2 : Vec Ideal S1x1000 .f32)
    (σ : Fin 1000 → Fin 400000) (hσ : ∀ t, x1 (ix2 t (0 : Fin 1)) = BitVec.ofNat 32 (σ t).val) (t : Fin 1000) :
    let p := alive (fun k t => cst 0x3F000000#32 < (iou (mbox x0 (σ k)) (mbox x0 (σ t)) : EReal) ∧ k < t)
      (fun t => (cst 0#32 : EReal) < x2 (ix2 (0 : Fin 1) t)) 1000 t
    (p → turn (over x0 x1) (begin0 x2) 1000 (ix2 (0 : Fin 1) t) = (1 : EReal))
      ∧ (¬ p → turn (over x0 x1) (begin0 x2) 1000 (ix2 (0 : Fin 1) t) = (0 : EReal)) :=
  walk_at _ _ _ _ (fun k t => by
    rw [over_at x0 x1 σ hσ k t]
    exact ⟨fun h => if_pos h, fun h => if_neg h⟩) (begin_at x2) 1000 (le_refl _) t

end Cert.KernelIdeal.Stage

end
-- ==== Proof.KerTail.lean ====
module

public import proofs.«01_k».proof.Proof.KerHost

@[expose] public section

noncomputable section

/-! The host operations after the kernel's second call. -/

namespace Cert.KernelIdeal.Value

open Idealize.ShloMosaic Idealize.ShloMosaic.TcCoe Idealize.SL.Sem
open Idealize.ShloMosaic.StableHlo
open Cert.KernelIdeal.Gen
open Cert.Spec Cert.Sort Cert.Words

variable (V : Valuation τ sig (Elt Ideal))

/-- Which candidates' bits are above nought. -/
theorem v26_at (t : Fin 1000) : after hostOps2 V (Proc.devRef .tc main_v26) (ix1 t)
    = FloatOps.cmpf .ogt (V (Proc.devRef .tc main_v23_1) (ix2 (0 : Fin 1) t)) (cst 0#32) := by
  after_reads_at

theorem cst6_at : after hostOps2 V (Proc.devRef .tc main_cst_6) ix0 = cst 0xBF800000#32 := by
  after_reads_at

/-- The final scores. -/
theorem v27_at (t : Fin 1000) : after hostOps2_1 V (Proc.devRef .tc main_v27) (ix1 t)
    = Scalar.select (V (Proc.devRef .tc main_v26) (ix1 t)) (V (Proc.devRef .tc main_v19) (ix1 t)) (V (Proc.devRef .tc main_cst_6) ix0) := by
  after_reads_at
  rfl

/-- The final scores, entry by entry. -/
def last (t : Fin 1000) : EReal := V (Proc.devRef .tc main_v27) (ix1 t)

theorem values7_at (n : Fin 100) : after hostOps2_2 V (Proc.devRef .tc main_values_7) (ix1 n)
    = last V (srt (last V) (n.castLE (by omega))) := by
  after_reads_at
  exact topK1_val (n := 1000) (k := 100) (by omega) (V (Proc.devRef .tc main_v27)) sliceFits_S1000_S100 n

theorem indices8_at (n : Fin 100) : after hostOps2_2 V (Proc.devRef .tc main_indices_8) (ix1 n)
    = BitVec.ofNat 32 (srt (last V) (n.castLE (by omega))).val := by
  after_reads_at
  exact topK1_idx (n := 1000) (k := 100) (by omega) (V (Proc.devRef .tc main_v27)) sliceFits_S1000_S100 n

theorem c11_at : after hostOps2_2 V (Proc.devRef .tc main_c_11) ix0 = 80#32 := by
  after_reads_at

/-- The picked boxes. -/
theorem v34_at (n : Fin 100) (q : Fin 4) : after hostOps2_2 V (Proc.devRef .tc main_v34) (ix2 n q)
    = V (Proc.devRef .tc main_v23_0) (ix2 (srt (last V) (n.castLE (by omega))) q) := by
  have hi := topK1_idx (n := 1000) (k := 100) (by omega) (V (Proc.devRef .tc main_v27)) sliceFits_S1000_S100 n
  have hw := wrap_col _ bcast_S100_S100x1_0 bcast_S_S100 1000#32 n _ (by omega) hi
  after_reads_at
  exact Routing.gather_row gather_S1000x4_S100x1_S100x4_1_0_n_n_0_1_14 rfl rfl rfl rfl rfl
    (V (Proc.devRef .tc main_v23_0)) _ n q _ hw (by decide)

/-- The candidates' classes. -/
theorem v35_at (t : Fin 1000) (a : Nat) (ha : a < 400000) (hV : V (Proc.devRef .tc main_v16) (ix1 t) = BitVec.ofNat 32 a)
    (hc : V (Proc.devRef .tc main_c_11) ix0 = 80#32) :
    after hostOps2_3 V (Proc.devRef .tc main_v35) (ix1 t) = BitVec.ofNat 32 (a % 80) := by
  after_reads_at
  rw [hV]
  simp only [id, hc]
  exact hrem_word .host (a := a) (k := 80) (by omega) (by decide) (by decide) _ rfl

/-- The result: box, score and class number of the picked candidates. -/
theorem v48_at (n : Fin 100) (p : Fin 1000) (C : Nat) (hi : V (Proc.devRef .tc main_indices_8) (ix1 n) = BitVec.ofNat 32 p.val)
    (hC : V (Proc.devRef .tc main_v35) (ix1 p) = BitVec.ofNat 32 C) (q : Fin 6) :
    after hostOps2_4 V (Proc.devRef .tc main_v48) (ix2 n q)
      = if h : q.val < 4 then V (Proc.devRef .tc main_v34) (ix2 n (⟨q.val, h⟩ : Fin 4))
        else if q.val = 4 then V (Proc.devRef .tc main_values_7) (ix1 n)
        else FloatOps.sitofp (F := Ideal) .f32 (IntOp.addi (BitVec.ofNat 32 C) 1#32) := by
  have hw := wrap_col _ bcast_S100_S100x1_0 bcast_S_S100 1000#32 n _ (by omega) hi
  match q with
  | 0 => after_reads_at
  | 1 => after_reads_at
  | 2 => after_reads_at
  | 3 => after_reads_at
  | 4 => (after_reads_at; after_reads_at)
  | 5 =>
    after_reads_at
    after_reads_at
    exact congrArg (fun w => FloatOps.sitofp (F := Ideal) .f32 (IntOp.addi w 1#32))
      ((Routing.gather_take1 gather_S1000_S100x1_S100_n_0_n_n_0_1_1 rfl rfl rfl rfl (V (Proc.devRef .tc main_v35)) _ n _ hw (by decide)).trans hC)

end Cert.KernelIdeal.Value

end
-- ==== Proof.KerValue.lean ====
module

public import proofs.«01_k».proof.Proof.KerScore
public import proofs.«01_k».proof.Proof.KerKeep
public import proofs.«01_k».proof.Proof.KerTail

@[expose] public section

noncomputable section

/-! The kernel's result, entry by entry, is the detections of the selected entries. -/

namespace Cert.KernelIdeal.Value

open Idealize.ShloMosaic Idealize.ShloMosaic.TcCoe Idealize.SL.Sem
open Cert.KernelIdeal.Gen Cert.KernelIdeal.Stage
open Cert.Spec Cert.Sort

variable (m : (ℓ : Loc nD τ sig) → Buf (Elt Ideal) ℓ) (ρ : Dev nD → PrngReg) (c : Dev nD)

/-- The reference's scores of the first argument. -/
def sc : Fin 400000 → EReal := scores (arg0 m c) (fun _ => (cst 0xBF800000#32 : EReal))

/-- The flat number of rank `t` in the reference's scores. -/
def pick (t : Fin 1000) : Fin 400000 := srt (sc m c) (t.castLE (by omega))

/-- The kernel selects what the reference selects. -/
theorem sel_pick (t : Fin 1000) : sel (W1 m ρ c) t = pick m c t := by
  unfold sel
  rw [flat_scores]
  exact select_eq (arg0 m c) t

/-- The word of the entry of rank `t` on entry to the second call. -/
theorem word_in (t : Fin 1000) : W4 m ρ c (Proc.devRef .tc main_v21) (ix2 t (0 : Fin 1)) = BitVec.ofNat 32 (pick m c t).val := by
  rw [← sel_pick m ρ c t]
  refine (v21_at (W3 m ρ c) t).trans ?_
  rw [W3_of m ρ c main_v16 (by decide +kernel)]
  exact v16_at (W1 m ρ c) t

/-- The score of rank `t` before the second call. -/
theorem score_mid (t : Fin 1000) : W3 m ρ c (Proc.devRef .tc main_v19) (ix1 t) = sc m c (pick m c t) := by
  refine (v19_at (W2 m ρ c) t).trans ?_
  have h1 := v18_at (W1 m ρ c) t
  have h2 := values0_at (W1 m ρ c) t
  have h3 := cst4_at (W1 m ρ c)
  rw [sel_pick, flat_scores] at h1 h2
  exact (congr (congrArg₂ (fun (a : BitVec 1) (b : EReal) => Scalar.select a b) h1 h2) h3).trans (kept (arg0 m c) (pick m c t))

/-- The score of rank `t` on entry to the second call. -/
theorem score_in (t : Fin 1000) : W4 m ρ c (Proc.devRef .tc main_v22) (ix2 (0 : Fin 1) t) = sc m c (pick m c t) :=
  (v22_at (W3 m ρ c) t).trans (score_mid m ρ c t)

/-- The table's box of a flat number is the box of the two arguments. -/
theorem tbox_eq (a : Fin 400000) : tbox (W4 m ρ c (Proc.devRef .tc main_v20)) a = boxOf (arg1 m c) (arg2 m c) a := by
  have hp : ∀ r, prop (W4 m ρ c (Proc.devRef .tc main_v20)) r = arg2 m c r := fun r => funext fun i => by
    refine (table_prop (W3 m ρ c) r i).trans ?_
    rw [W3_args m ρ c main_arg2 (by decide +kernel)]
    rfl
  have hr : ∀ r, rege (W4 m ρ c (Proc.devRef .tc main_v20)) r = arg1 m c r := fun r => funext fun i => by
    refine (table_reg (W3 m ρ c) r i).trans ?_
    rw [W3_args m ρ c main_arg1 (by decide +kernel)]
    rfl
  funext q
  unfold tbox boxOf
  rw [hp, hr]

theorem mbox_eq (a : Fin 400000) : mbox (W4 m ρ c (Proc.devRef .tc main_v20)) a = movedOf (arg1 m c) (arg2 m c) a := by
  funext q
  unfold mbox movedOf
  rw [tbox_eq]

/-- The second call's boxes. -/
theorem boxes_out (t : Fin 1000) (q : Fin 4) : W5 m ρ c (Proc.devRef .tc main_v23_0) (ix2 t q) = boxOf (arg1 m c) (arg2 m c) (pick m c t) q := by
  rw [show W5 m ρ c (Proc.devRef .tc main_v23_0) = _ from (W5_arr m ρ c 3).trans (boxes_array c (V4 m ρ))]
  refine (boxes_at _ _ t (pick m c t) (word_in m ρ c t) q).trans ?_
  exact congrFun (tbox_eq m ρ c _) q

/-- Whether the entry of rank `t` survives. -/
def lives (t : Fin 1000) : Prop :=
  alive (hits (arg1 m c) (arg2 m c) (pick m c)) (fun t => (cst 0#32 : EReal) < sc m c (pick m c t)) 1000 t

/-- The second call's keep row. -/
theorem keep_out (t : Fin 1000) : (lives m c t → W5 m ρ c (Proc.devRef .tc main_v23_1) (ix2 (0 : Fin 1) t) = (1 : EReal))
    ∧ (¬ lives m c t → W5 m ρ c (Proc.devRef .tc main_v23_1) (ix2 (0 : Fin 1) t) = (0 : EReal)) := by
  rw [show W5 m ρ c (Proc.devRef .tc main_v23_1) = _ from (W5_arr m ρ c 4).trans (keep_array c (V4 m ρ))]
  have h := keep_at (W4 m ρ c (Proc.devRef .tc main_v20)) (W4 m ρ c (Proc.devRef .tc main_v21)) (W4 m ρ c (Proc.devRef .tc main_v22))
    (pick m c) (word_in m ρ c) t
  have hh : (fun k t : Fin 1000 => cst 0x3F000000#32 < (iou (mbox (W4 m ρ c (Proc.devRef .tc main_v20)) (pick m c k))
      (mbox (W4 m ρ c (Proc.devRef .tc main_v20)) (pick m c t)) : EReal) ∧ k < t) = hits (arg1 m c) (arg2 m c) (pick m c) := by
    funext k t
    rw [mbox_eq, mbox_eq]
    rfl
  have ha : (fun t : Fin 1000 => (cst 0#32 : EReal) < W4 m ρ c (Proc.devRef .tc main_v22) (ix2 (0 : Fin 1) t))
      = fun t => (cst 0#32 : EReal) < sc m c (pick m c t) := by
    funext t
    rw [score_in]
  have e := congrFun (congrArg₂ (fun a b => alive a b 1000) hh ha) t
  exact ⟨fun hl => h.1 (e.mpr hl), fun hl => h.2 fun hp => hl (e.mp hp)⟩

/-- The final score of rank `t`. -/
theorem last_at : last (W7 m ρ c) = finals (arg1 m c) (arg2 m c) (pick m c) (fun t => sc m c (pick m c t)) := by
  classical
  funext t
  have h1 := v26_at (W5 m ρ c) t
  have h2 : W6 m ρ c (Proc.devRef .tc main_v19) (ix1 t) = sc m c (pick m c t) := by
    rw [W6_of m ρ c main_v19 (by decide +kernel), W5_of m ρ c main_v19 (by decide +kernel), W4_of m ρ c main_v19 (by decide +kernel)]
    exact score_mid m ρ c t
  have h3 := cst6_at (W5 m ρ c)
  refine (v27_at (W6 m ρ c) t).trans ?_
  refine (congr (congrArg₂ (fun (a : BitVec 1) (b : EReal) => Scalar.select a b) h1 h2) h3).trans ?_
  have h0 : (cst 0#32 : EReal) = 0 := Ideal.ofBits_zero_f32
  show Scalar.select (BitVec.ofBool (decide ((cst 0#32 : EReal) < (W5 m ρ c (Proc.devRef .tc main_v23_1) (ix2 (0 : Fin 1) t) : EReal)))) _ _ = _
  unfold finals
  by_cases hl : lives m c t
  · refine Eq.trans ?_ (if_pos hl).symm
    rw [decide_eq_true (by rw [(keep_out m ρ c t).1 hl, h0]; exact zero_lt_one)]
    rfl
  · refine Eq.trans ?_ (if_neg hl).symm
    rw [decide_eq_false (by rw [(keep_out m ρ c t).2 hl, h0]; exact lt_irrefl _)]
    rfl

/-- The kernel's result, entry by entry. -/
theorem kernel_at (n : Fin 100) (q : Fin 6) : W10 m ρ c (Proc.devRef .tc main_v48) (ix2 n q)
    = detect (arg1 m c) (arg2 m c) (pick m c) (fun t => sc m c (pick m c t)) n q := by
  have hi : W9 m ρ c (Proc.devRef .tc main_indices_8) (ix1 n) = BitVec.ofNat 32 (srt (last (W7 m ρ c)) (n.castLE (by omega))).val := by
    rw [W9_of m ρ c main_indices_8 (by decide +kernel)]
    exact indices8_at (W7 m ρ c) n
  have hC : ∀ p, W9 m ρ c (Proc.devRef .tc main_v35) (ix1 p) = BitVec.ofNat 32 ((pick m c p).val % 80) := fun p => by
    refine v35_at (W8 m ρ c) p (pick m c p).val (pick m c p).isLt ?_ (c11_at (W7 m ρ c))
    rw [W8_of m ρ c main_v16 (by decide +kernel), W7_of m ρ c main_v16 (by decide +kernel), W6_of m ρ c main_v16 (by decide +kernel),
      W5_of m ρ c main_v16 (by decide +kernel), W4_of m ρ c main_v16 (by decide +kernel), W3_of m ρ c main_v16 (by decide +kernel), ← sel_pick m ρ c p]
    exact v16_at (W1 m ρ c) p
  have hB : ∀ q : Fin 4, W9 m ρ c (Proc.devRef .tc main_v34) (ix2 n q)
      = boxOf (arg1 m c) (arg2 m c) (pick m c (srt (last (W7 m ρ c)) (n.castLE (by omega)))) q := fun q => by
    rw [W9_of m ρ c main_v34 (by decide +kernel)]
    refine (v34_at (W7 m ρ c) n q).trans ?_
    rw [W7_of m ρ c main_v23_0 (by decide +kernel), W6_of m ρ c main_v23_0 (by decide +kernel)]
    exact boxes_out m ρ c _ q
  have hS : W9 m ρ c (Proc.devRef .tc main_values_7) (ix1 n) = last (W7 m ρ c) (srt (last (W7 m ρ c)) (n.castLE (by omega))) := by
    rw [W9_of m ρ c main_values_7 (by decide +kernel)]
    exact values7_at (W7 m ρ c) n
  refine (v48_at (W9 m ρ c) n _ _ hi (hC _) q).trans ?_
  unfold detect
  rw [← last_at m ρ c]
  unfold tail
  split
  · exact hB _
  · split
    · exact hS
    · rfl

end Cert.KernelIdeal.Value

end
-- ==== Proof.RefBox.lean ====
module

public import proofs.«01_k».proof.Proof.TopK
public import proofs.«01_k».proof.Proof.Spec
public import Idealize.ShloMosaic.Lib.ValueIdx
public import Idealize.ShloMosaic.Lib.StableHlo.ReadAt

@[expose] public section

noncomputable section

namespace Cert.ReferenceIdeal.Value

open Idealize.ShloMosaic Idealize.ShloMosaic.TcCoe Idealize.SL.Sem
open Idealize.ShloMosaic.StableHlo
open Cert.ReferenceIdeal.Gen

open Cert.Spec

/-- The reference's decoded box of proposal `b` for class `c`, read off the stretches that decode. -/
theorem v107_all (V : Valuation τ sig (Elt Ideal)) (b : Fin 5000) (c : Fin 80) (q : Fin 4) :
    afterL [hostOps0, hostOps0_1, hostOps0_2, hostOps0_3, hostOps0_4, hostOps0_5, hostOps0_6, hostOps0_7, hostOps0_8] V
      (Proc.devRef .tc main_v107) (ix3 b c q) =
      box (fun i => V (Proc.devRef .tc main_arg2) (ix2 b i))
        (fun i => V (Proc.devRef .tc main_arg1) (ix2 b (⟨(1 + c.val) * 4 + i.val, by omega⟩ : Fin 324))) q := by
  simp only [afterL_cons, afterL_nil]
  match q with
  | 0 => (after_reads_at; after_reads_at; after_reads_at; rfl)
  | 1 => (after_reads_at; after_reads_at; after_reads_at; rfl)
  | 2 => (after_reads_at; after_reads_at; after_reads_at; rfl)
  | 3 => (after_reads_at; after_reads_at; after_reads_at; rfl)

/-- The boxes the reference picks, by the words of its first selection. -/
def picked (V : Valuation τ sig (Elt Ideal)) : Vec Ideal S1000x4 .f32 :=
  Host.gather gather_S400000x4_S1000x1_S1000x4_1_0_n_n_0_1_14
    (fun i => V (Proc.devRef .tc main_v107) (ix3 (⟨(i 0).val / 80, by have : (i 0).val < 400000 := (i 0).isLt; omega⟩ : Fin 5000) (⟨(i 0).val % 80, by omega⟩ : Fin 80) (i 1)))
    (broadcastInDim S1000x1 ![0] bcast_S1000_S1000x1_0
      (select (cmpi CmpIPredicate.slt (V (Proc.devRef .tc main_indices)) (broadcastInDim S1000 ![] bcast_S_S1000 (constantI S_ 32 0#32)))
        (addi (V (Proc.devRef .tc main_indices)) (broadcastInDim S1000 ![] bcast_S_S1000 (constantI S_ 32 400000#32)))
        (V (Proc.devRef .tc main_indices))))

/-- The picked boxes are what the gather leaves. -/
theorem v120_at (V : Valuation τ sig (Elt Ideal)) (n : Fin 1000) (q : Fin 4) :
    after hostOps0_12 V (Proc.devRef .tc main_v120) (ix2 n q) = picked V (ix2 n q) := by
  after_reads_at
  rfl

/-- The overlaps of the picked boxes, each moved by its class. -/
theorem v178_at (V : Valuation τ sig (Elt Ideal)) (n k : Fin 1000) :
    afterL [hostOps0_12, hostOps0_13, hostOps0_14] V (Proc.devRef .tc main_v178) (ix2 n k) =
      iou (shift (fun q => picked V (ix2 n q)) (V (Proc.devRef .tc main_v112) (ix1 n)))
        (shift (fun q => picked V (ix2 k q)) (V (Proc.devRef .tc main_v112) (ix1 k))) := by
  simp only [afterL_cons, afterL_nil]
  after_reads_at
  rfl

end Cert.ReferenceIdeal.Value

end
-- ==== Proof.RefTail.lean ====
module

public import proofs.«01_k».proof.Proof.TopK
public import proofs.«01_k».proof.Proof.Detect
public import proofs.«01_k».proof.Proof.RefBox
public import Idealize.ShloMosaic.Lib.DynamicIndex
public import proofs.«01_k».proof.Proof.Spec
public import proofs.«01_k».proof.Proof.Words
public import Idealize.ShloMosaic.Lib.ValueIdx
public import Idealize.ShloMosaic.PureOps.Ideal.Laws
public import Idealize.ShloMosaic.Lib.Routing.OpsSet
public import Idealize.ShloMosaic.Lib.StableHlo.ReadAt

@[expose] public section

noncomputable section

namespace Cert.ReferenceIdeal.Value

open Idealize.ShloMosaic Idealize.ShloMosaic.TcCoe Idealize.SL.Sem
open Idealize.ShloMosaic.StableHlo
open Cert.ReferenceIdeal.Gen

open Cert.Spec Cert.Sort Cert.Words

/-- The second selection's scores, entry by entry. -/
def last (V : Valuation τ sig (Elt Ideal)) (t : Fin 1000) : EReal := V (Proc.devRef .tc main_v183) (ix1 t)

/-- The stretch after the loop leaves the tail of the selected boxes, final scores and class words. -/
theorem v203_at (V : Valuation τ sig (Elt Ideal)) (C : Fin 1000 → ℕ)
    (hC : ∀ t : Fin 1000, V (Proc.devRef .tc main_v112) (ix1 t) = BitVec.ofNat 32 (C t)) (n : Fin 100) (q : Fin 6) :
    after hostOps0_17 V (Proc.devRef .tc main_v203) (ix2 n q)
      = tail (fun t q => V (Proc.devRef .tc main_v120) (ix2 t q)) (last V) C n q := by
  have hi := topK1_idx (n := 1000) (k := 100) (by omega) (V (Proc.devRef .tc main_v183)) sliceFits_S1000_S100 n
  have hw := wrap_col _ bcast_S100_S100x1_0 bcast_S_S100 1000#32 n _ (by omega) hi
  have hrow := fun q => Routing.gather_row gather_S1000x4_S100x1_S100x4_1_0_n_n_0_1_14 rfl rfl rfl rfl rfl
    (V (Proc.devRef .tc main_v120)) _ n q _ hw (by decide)
  match q with
  | 0 => (after_reads_at; after_reads_at; exact hrow 0)
  | 1 => (after_reads_at; after_reads_at; exact hrow 1)
  | 2 => (after_reads_at; after_reads_at; exact hrow 2)
  | 3 => (after_reads_at; after_reads_at; exact hrow 3)
  | 4 =>
    after_reads_at
    after_reads_at
    exact topK1_val (n := 1000) (k := 100) (by omega) (V (Proc.devRef .tc main_v183)) sliceFits_S1000_S100 n
  | 5 =>
    after_reads_at
    after_reads_at
    exact congrArg (fun w => FloatOps.sitofp (F := Ideal) .f32 (IntOp.addi w 1#32))
      ((Routing.gather_take1 gather_S1000_S100x1_S100_n_0_n_n_0_1_1 rfl rfl rfl rfl (V (Proc.devRef .tc main_v112)) _ n _ hw (by decide)).trans
        (hC _))

/-- The picked boxes, at the entries the words name. -/
theorem picked_at (V : Valuation τ sig (Elt Ideal)) (t : Fin 1000) (q : Fin 4) (a : Fin 400000)
    (ha : V (Proc.devRef .tc main_indices) (ix1 t) = BitVec.ofNat 32 a.val) :
    picked V (ix2 t q) = V (Proc.devRef .tc main_v107)
      (ix3 (⟨a.val / 80, by omega⟩ : Fin 5000) (⟨a.val % 80, by omega⟩ : Fin 80) q) := by
  have hw := wrap_col (V (Proc.devRef .tc main_indices)) bcast_S1000_S1000x1_0 bcast_S_S1000 400000#32 t _ (by omega) ha
  exact Routing.gather_row gather_S400000x4_S1000x1_S1000x4_1_0_n_n_0_1_14 rfl rfl rfl rfl rfl _ _ t q a hw (by decide)

end Cert.ReferenceIdeal.Value

end
-- ==== Proof.RefLoop.lean ====
module

public import proofs.«01_k».proof.Proof.TopK
public import proofs.«01_k».proof.Proof.Detect
public import Idealize.ShloMosaic.Lib.DynamicIndex
public import proofs.«01_k».proof.Proof.Spec
public import proofs.«01_k».proof.Proof.Words
public import Idealize.ShloMosaic.Lib.ValueIdx
public import Idealize.ShloMosaic.PureOps.Ideal.Laws
public import Idealize.ShloMosaic.Lib.Routing.OpsSet
public import Idealize.ShloMosaic.Lib.StableHlo.ReadAt

@[expose] public section

noncomputable section

namespace Cert.ReferenceIdeal.Value

open Idealize.ShloMosaic Idealize.ShloMosaic.TcCoe Idealize.SL.Sem
open Idealize.ShloMosaic.StableHlo
open Cert.ReferenceIdeal.Gen

open Cert.Spec Cert.Sort Cert.Words

/-- A one-entry slice at the number `k` is the entry `k`. -/
theorem slice_entry {α : Type} (x : S1000.Idx → α) (start : Fin 1 → Int) (h : S1000.Slices (fun _ => 0) S1) (k : Fin 1000)
    (hs : start 0 = k.val) : Host.dynamicSlice S1 x start h (ix1 (0 : Fin 1)) = x (ix1 k) := by
  have hk : S1000.Slices ![k.val] S1 := ⟨rfl, fun a => by
    match a with
    | ⟨0, _⟩ => show k.val + 1 ≤ 1000; omega⟩
  rw [Host.dynamicSlice_eq_extractStridedSlice S1 x start ![k.val] h hk (fun a => by
    match a with
    | ⟨0, _⟩ => exact hs)]
  exact congrArg x (funext fun a => Fin.ext (by
    match a with
    | ⟨0, _⟩ => rfl))

/-- A one-row slice at the number `k` is the row `k`. -/
theorem slice_row {α : Type} (x : S1000x1000.Idx → α) (start : Fin 2 → Int) (h : S1000x1000.Slices (fun _ => 0) S1x1000) (k t : Fin 1000)
    (hs : start 0 = k.val) (hs1 : start 1 = 0) : Host.dynamicSlice S1x1000 x start h (ix2 (0 : Fin 1) t) = x (ix2 k t) := by
  have hk : S1000x1000.Slices ![k.val, 0] S1x1000 := ⟨rfl, fun a => by
    match a with
    | ⟨0, _⟩ => show k.val + 1 ≤ 1000; omega
    | ⟨1, _⟩ => show 0 + 1000 ≤ 1000; omega⟩
  rw [Host.dynamicSlice_eq_extractStridedSlice S1x1000 x start ![k.val, 0] h hk (fun a => by
    match a with
    | ⟨0, _⟩ => exact hs
    | ⟨1, _⟩ => exact hs1)]
  exact congrArg x (funext fun a => Fin.ext (by
    match a with
    | ⟨0, _⟩ => rfl
    | ⟨1, _⟩ => exact Nat.zero_add _))

/-- The index the loop reads in its trip `k`. -/
theorem index_at (V : Valuation τ sig (Elt Ideal)) (k : Fin 1000)
    (h3 : V (Proc.devRef .tc main_v182_3) = fun _ => BitVec.ofNat 32 k.val)
    (h0 : ∀ t : Fin 1000, V (Proc.devRef .tc main_v182_0) (ix1 t) = BitVec.ofNat 32 t.val) :
    res_main_while0b_v204 V = fun _ => BitVec.ofNat 32 k.val := by
  funext i
  obtain rfl : i = ix0 := funext fun a => a.elim0
  unfold res_main_while0b_v204
  rw [h3]
  generalize hA : Host.dynamicSlice S1 _ _ _ = A
  have hA0 : A (ix1 (0 : Fin 1)) = BitVec.ofNat 32 k.val := by
    rw [← hA]
    exact (slice_entry _ _ _ k (toInt_ofNat_of_lt (by omega))).trans (h0 k)
  pointwise
  exact hA0

/-- One trip of the loop, at an entry. -/
theorem step_at (V : Valuation τ sig (Elt Ideal)) (k t : Fin 1000)
    (hx : res_main_while0b_v204 V = fun _ => BitVec.ofNat 32 k.val) :
    step_main_v182_4 V (ix1 t) =
      Scalar.select (V (Proc.devRef .tc main_v182_4) (ix1 k))
        (IntOp.andi (V (Proc.devRef .tc main_v182_4) (ix1 t))
          (~~~ (IntOp.andi (BitVec.ofBool (decide ((cst 0x3F000000#32 : EReal) < V (Proc.devRef .tc main_v182_1) (ix2 k t))))
            (IntOp.cmpi .sgt (V (Proc.devRef .tc main_v182_2) (ix1 t)) (BitVec.ofNat 32 k.val)))))
        (V (Proc.devRef .tc main_v182_4) (ix1 t)) := by
  unfold step_main_v182_4
  rw [hx]
  generalize hA : Host.dynamicSlice S1 _ _ _ = A
  generalize hB : Host.dynamicSlice S1x1000 _ _ _ = B
  have hw : (Scalar.select (IntOp.cmpi .slt (BitVec.ofNat 32 k.val) 0#32) (IntOp.addi (BitVec.ofNat 32 k.val) 1000#32)
      (BitVec.ofNat 32 k.val)).toInt = k.val := by
    rw [wrap_word (by omega)]; exact toInt_ofNat_of_lt (by omega)
  have hA0 : A (ix1 (0 : Fin 1)) = V (Proc.devRef .tc main_v182_4) (ix1 k) := by
    rw [← hA]
    exact slice_entry _ _ _ k hw
  have hB0 : B (ix2 (0 : Fin 1) t) = V (Proc.devRef .tc main_v182_1) (ix2 k t) := by
    rw [← hB]
    exact slice_row _ _ _ k t hw rfl
  simp only [id]
  pointwise
  rw [hA0, hB0]

/-- What one trip does to an entry's bit, the bits read as propositions. -/
theorem bit_step (p a o g : Prop) :
    Scalar.select (bit p)
        (IntOp.andi (bit a) (~~~ (IntOp.andi (bit o) (bit g))))
        (bit a) = bit (a ∧ ¬ (p ∧ o ∧ g)) := by
  unfold bit
  by_cases hp : p <;> by_cases ha : a <;> by_cases ho : o <;> by_cases hg : g <;> simp [hp, ha, ho, hg] <;> rfl

/-- One trip drops what the trip's entry hits, if that entry is alive. -/
theorem trip_at (X : Valuation τ sig (Elt Ideal)) (I : Fin 1000 → Fin 1000 → EReal) (a : Fin 1000 → Prop) (k : ℕ) (hk : k < 1000)
    (t : Fin 1000)
    (i4 : ∀ t : Fin 1000, X (Proc.devRef .tc main_v182_4) (ix1 t) = bit (a t))
    (i3 : X (Proc.devRef .tc main_v182_3) = fun _ => BitVec.ofNat 32 k)
    (h0 : ∀ t : Fin 1000, X (Proc.devRef .tc main_v182_0) (ix1 t) = BitVec.ofNat 32 t.val)
    (h1 : ∀ k t : Fin 1000, X (Proc.devRef .tc main_v182_1) (ix2 k t) = I k t)
    (h2 : ∀ t : Fin 1000, X (Proc.devRef .tc main_v182_2) (ix1 t) = BitVec.ofNat 32 t.val) :
    STEP X (Proc.devRef .tc main_v182_4) (ix1 t) = bit (a t ∧ ¬ ∃ h : k < 1000, a ⟨k, h⟩ ∧
      (cst 0x3F000000#32 : EReal) < I ⟨k, h⟩ t ∧ (⟨k, h⟩ : Fin 1000) < t) := by
  have hx := index_at X ⟨k, hk⟩ i3 h0
  have hg : IntOp.cmpi .sgt (BitVec.ofNat 32 t.val) (BitVec.ofNat 32 k) = BitVec.ofBool (decide (k < t.val)) :=
    WordCmp.cmpi_sgt_ofNat (w := 32) (by omega) (by omega)
  have hs := step_at X ⟨k, hk⟩ t hx
  rw [i4, i4, h1, h2, hg, bit_eq, bit_eq, bit_step] at hs
  rw [STEP_main_v182_4, hs]
  exact congrArg bit (propext (and_congr_right fun _ =>
    not_congr ⟨fun h => ⟨hk, h.1, h.2.1, h.2.2⟩, fun ⟨_, ha, hb, hc⟩ => ⟨ha, hb, hc⟩⟩))

/-- The loop's bits after `k` trips are the entries alive after `k` rounds; the other carried buffers are as they were. -/
theorem loop_at (V : Valuation τ sig (Elt Ideal)) (I : Fin 1000 → Fin 1000 → EReal) (a0 : Fin 1000 → Prop)
    (h0 : ∀ t : Fin 1000, V (Proc.devRef .tc main_v182_0) (ix1 t) = BitVec.ofNat 32 t.val)
    (h1 : ∀ k t : Fin 1000, V (Proc.devRef .tc main_v182_1) (ix2 k t) = I k t)
    (h2 : ∀ t : Fin 1000, V (Proc.devRef .tc main_v182_2) (ix1 t) = BitVec.ofNat 32 t.val)
    (h3 : V (Proc.devRef .tc main_v182_3) = fun _ => BitVec.ofNat 32 0)
    (h4 : ∀ t : Fin 1000, V (Proc.devRef .tc main_v182_4) (ix1 t) = bit (a0 t)) :
    ∀ k, k ≤ 1000 →
      (∀ t : Fin 1000, STEP^[k] V (Proc.devRef .tc main_v182_4) (ix1 t)
        = bit (alive (fun k t => (cst 0x3F000000#32 : EReal) < I k t ∧ k < t) a0 k t))
      ∧ STEP^[k] V (Proc.devRef .tc main_v182_3) = (fun _ => BitVec.ofNat 32 k)
      ∧ STEP^[k] V (Proc.devRef .tc main_v182_0) = V (Proc.devRef .tc main_v182_0)
      ∧ STEP^[k] V (Proc.devRef .tc main_v182_1) = V (Proc.devRef .tc main_v182_1)
      ∧ STEP^[k] V (Proc.devRef .tc main_v182_2) = V (Proc.devRef .tc main_v182_2)
  | 0, _ => ⟨h4, h3, rfl, rfl, rfl⟩
  | k + 1, hk => by
    obtain ⟨i4, i3, i0, i1, i2⟩ := loop_at V I a0 h0 h1 h2 h3 h4 k (by omega)
    rw [Function.iterate_succ_apply']
    refine ⟨fun t => ?_, ?_, (STEP_main_v182_0 _).trans i0, (STEP_main_v182_1 _).trans i1, (STEP_main_v182_2 _).trans i2⟩
    · exact trip_at _ I _ k (by omega) t i4 i3 (fun t => by rw [i0]; exact h0 t) (fun k t => by rw [i1]; exact h1 k t)
        (fun t => by rw [i2]; exact h2 t)
    · rw [STEP_main_v182_3]
      unfold step_main_v182_3
      rw [i3]
      funext i
      show BitVec.ofNat 32 k + BitVec.ofNat 32 1 = _
      rw [← BitVec.ofNat_add]

/-- What the loop starts from: the positions, the overlaps, the positions again, and the bits of the positive scores. -/
theorem start_at (V : Valuation τ sig (Elt Ideal)) (t : Fin 1000) :
    after hostOps0_14 V (Proc.devRef .tc main_v182_0) (ix1 t) = BitVec.ofNat 32 t.val
    ∧ after hostOps0_14 V (Proc.devRef .tc main_v182_2) (ix1 t) = BitVec.ofNat 32 t.val
    ∧ after hostOps0_14 V (Proc.devRef .tc main_v182_3) = (fun _ => BitVec.ofNat 32 0)
    ∧ after hostOps0_14 V (Proc.devRef .tc main_v182_4) (ix1 t)
        = bit ((cst 0#32 : EReal) < V (Proc.devRef .tc main_values) (ix1 t)) := by
  refine ⟨?_, ?_, ?_, ?_⟩
  · after_reads_at
    rfl
  · after_reads_at
    rfl
  · funext i
    after_reads_at
    rfl
  · after_reads_at
    simp only [id]
    pointwise
    exact bit_eq ((0 : EReal) < V (Proc.devRef .tc main_values) (ix1 t))

/-- The loop's overlaps are those overlaps. -/
theorem v182_1_at (V : Valuation τ sig (Elt Ideal)) (n k : Fin 1000) :
    after hostOps0_14 V (Proc.devRef .tc main_v182_1) (ix2 n k) = after hostOps0_14 V (Proc.devRef .tc main_v178) (ix2 n k) := by
  after_reads_at
  simp only [id]
  pointwise

end Cert.ReferenceIdeal.Value

end
-- ==== Proof.RefScore.lean ====
module

public import proofs.«01_k».proof.Proof.TopK
public import proofs.«01_k».proof.Proof.Spec
public import proofs.«01_k».proof.Proof.Words
public import Idealize.ShloMosaic.Lib.ValueIdx
public import Idealize.ShloMosaic.PureOps.Ideal.Laws
public import Idealize.ShloMosaic.Lib.Routing.OpsSet
public import Idealize.ShloMosaic.Lib.StableHlo.ReadAt

@[expose] public section

noncomputable section

namespace Cert.ReferenceIdeal.Value

open Idealize.ShloMosaic Idealize.ShloMosaic.TcCoe Idealize.SL.Sem
open Idealize.ShloMosaic.StableHlo
open Cert.ReferenceIdeal.Gen

open Cert.Spec Cert.Sort Cert.Words

/-- Starting the fold again from its own start changes nothing. -/
theorem fold_start {ι : Type} (s : Finset ι) (b : EReal) (x : ι → EReal) : max b (s.fold max b x) = s.fold max b x :=
  max_eq_right ((Finset.le_fold_max _).2 (Or.inl le_rfl))

/-- The reference's flat scores. -/
theorem v111_at (V : Valuation τ sig (Elt Ideal)) (n : Fin 400000) :
    afterL [hostOps0_8, hostOps0_9] V (Proc.devRef .tc main_v111) (ix1 n) =
      score (prob (fun i => V (Proc.devRef .tc main_arg0) (ix2 (⟨n.val / 80, by omega⟩ : Fin 5000) i))
        (⟨1 + n.val % 80, by omega⟩ : Fin 81)) (cst 0xBF800000#32) := by
  simp only [afterL_cons, afterL_nil]
  after_reads_at
  unfold score prob ex mx
  pointwise
  simp only [fold_start]
  rfl

/-- The flat scores, entry by entry. -/
def flat (V : Valuation τ sig (Elt Ideal)) (n : Fin 400000) : EReal := V (Proc.devRef .tc main_v111) (ix1 n)

/-- The first selection's values. -/
theorem values_at (V : Valuation τ sig (Elt Ideal)) (t : Fin 1000) :
    after hostOps0_10 V (Proc.devRef .tc main_values) (ix1 t) =
      flat V (srt (flat V) (t.castLE (by omega))) := by
  after_reads_at
  exact topK1_val (by omega) _ _ t

/-- The first selection's words. -/
theorem indices_at (V : Valuation τ sig (Elt Ideal)) (t : Fin 1000) :
    after hostOps0_10 V (Proc.devRef .tc main_indices) (ix1 t) =
      BitVec.ofNat 32 (srt (flat V) (t.castLE (by omega))).val := by
  after_reads_at
  exact topK1_idx (by omega) _ _ t

/-- The number of classes, where the class words are taken. -/
theorem c_at (V : Valuation τ sig (Elt Ideal)) : after hostOps0_10 V (Proc.devRef .tc main_c) ix0 = 80#32 := by
  after_reads_at

/-- The selected classes' words. -/
theorem v112_at (V : Valuation τ sig (Elt Ideal)) (t : Fin 1000) (a : Nat) (ha : a < 400000)
    (hV : V (Proc.devRef .tc main_indices) (ix1 t) = BitVec.ofNat 32 a) (hc : V (Proc.devRef .tc main_c) ix0 = 80#32) :
    after hostOps0_11 V (Proc.devRef .tc main_v112) (ix1 t) = BitVec.ofNat 32 (a % 80) := by
  after_reads_at
  rw [hV]
  simp only [id, hc]
  exact hrem_word .host (a := a) (k := 80) (by omega) (by decide) (by decide) _ rfl

/-- Which selected entries start alive. -/
theorem v180_at (V : Valuation τ sig (Elt Ideal)) (n : Fin 1000) :
    after hostOps0_14 V (Proc.devRef .tc main_v180) (ix1 n) =
      FloatOps.cmpf .ogt (V (Proc.devRef .tc main_values) (ix1 n)) (cst 0#32) := by
  after_reads_at

/-- The second selection's scores. -/
theorem v183_at (V : Valuation τ sig (Elt Ideal)) (n : Fin 1000) :
    afterL [hostOps0_15, hostOps0_16] V (Proc.devRef .tc main_v183) (ix1 n) =
      Scalar.select (V (Proc.devRef .tc main_v182_4) (ix1 n)) (V (Proc.devRef .tc main_values) (ix1 n)) (cst 0xBF800000#32) := by
  simp only [afterL_cons, afterL_nil]
  after_reads_at
  rfl

end Cert.ReferenceIdeal.Value

end
-- ==== Proof.RefValue.lean ====
module

public import proofs.«01_k».proof.Proof.RefTail
public import proofs.«01_k».proof.Proof.RefLoop
public import proofs.«01_k».proof.Proof.RefScore
public import proofs.«01_k».proof.Proof.Detect
public import Idealize.ShloMosaic.Lib.DynamicIndex
public import proofs.«01_k».proof.Proof.Spec
public import proofs.«01_k».proof.Proof.Words
public import Idealize.ShloMosaic.Lib.ValueIdx
public import Idealize.ShloMosaic.PureOps.Ideal.Laws
public import Idealize.ShloMosaic.Lib.Routing.OpsSet
public import Idealize.ShloMosaic.Lib.StableHlo.ReadAt

@[expose] public section

noncomputable section

namespace Cert.ReferenceIdeal.Value

open Idealize.ShloMosaic Idealize.ShloMosaic.TcCoe Idealize.SL.Sem
open Idealize.ShloMosaic.StableHlo
open Cert.ReferenceIdeal.Gen

open Cert.Spec Cert.Sort Cert.Words

variable (m : (ℓ : Loc nD τ sig) → Buf (Elt Ideal) ℓ) (c : Dev nD)

/-- The launched contents. -/
abbrev c0 : Valuation τ sig (Elt Ideal) := fun r => m (c, r)

/-- The first argument's rows. -/
def arg0 (b : Fin 5000) (i : Fin 81) : EReal := m ((c.tc : Thread nD τ).loc main_arg0) (ix2 b i)
/-- The second argument's rows. -/
def arg1 (b : Fin 5000) (i : Fin 324) : EReal := m ((c.tc : Thread nD τ).loc main_arg1) (ix2 b i)
/-- The third argument's rows. -/
def arg2 (b : Fin 5000) (i : Fin 4) : EReal := m ((c.tc : Thread nD τ).loc main_arg2) (ix2 b i)

/-- The reference's scores. -/
def sc : Fin 400000 → EReal := scores (arg0 m c) (fun _ => (cst 0xBF800000#32 : EReal))

/-- The reference's selected entries. -/
def pick (t : Fin 1000) : Fin 400000 := srt (sc m c) (t.castLE (by omega))

/-- The contents before the scores' threshold. -/
abbrev c7 : Valuation τ sig (Elt Ideal) := afterL [hostOps0, hostOps0_1, hostOps0_2, hostOps0_3, hostOps0_4, hostOps0_5, hostOps0_6, hostOps0_7] (c0 m c)
/-- The contents with the boxes decoded. -/
abbrev c8 : Valuation τ sig (Elt Ideal) := after hostOps0_8 (c7 m c)
/-- The contents with the flat scores. -/
abbrev c9 : Valuation τ sig (Elt Ideal) := after hostOps0_9 (c8 m c)
/-- The contents after the first selection. -/
abbrev c10 : Valuation τ sig (Elt Ideal) := after hostOps0_10 (c9 m c)
/-- The contents with the class words. -/
abbrev c11 : Valuation τ sig (Elt Ideal) := after hostOps0_11 (c10 m c)
/-- The contents with the boxes picked. -/
abbrev c12 : Valuation τ sig (Elt Ideal) := after hostOps0_12 (c11 m c)
/-- The contents with the boxes moved. -/
abbrev c13 : Valuation τ sig (Elt Ideal) := after hostOps0_13 (c12 m c)
/-- The contents at the loop's entry. -/
abbrev c14 : Valuation τ sig (Elt Ideal) := after hostOps0_14 (c13 m c)

theorem entry_eq : entryContents preI m c = c14 m c := rfl

theorem c7_arg0 : c7 m c (Proc.devRef .tc main_arg0) = c0 m c (Proc.devRef .tc main_arg0) := by
  simp only [c7, afterL_cons, afterL_nil]
  rw [after_of_writes_sub hostOps0_7 _ hostOps0_7_writes (by decide +kernel), after_of_writes_sub hostOps0_6 _ hostOps0_6_writes (by decide +kernel),
    after_of_writes_sub hostOps0_5 _ hostOps0_5_writes (by decide +kernel), after_of_writes_sub hostOps0_4 _ hostOps0_4_writes (by decide +kernel),
    after_of_writes_sub hostOps0_3 _ hostOps0_3_writes (by decide +kernel), after_of_writes_sub hostOps0_2 _ hostOps0_2_writes (by decide +kernel),
    after_of_writes_sub hostOps0_1 _ hostOps0_1_writes (by decide +kernel), after_of_writes_sub hostOps0 _ hostOps0_writes (by decide +kernel)]

/-- The flat scores are the formula's. -/
theorem flat_eq : flat (c9 m c) = sc m c := by
  funext n
  refine (v111_at (c7 m c) n).trans ?_
  rw [c7_arg0]
  rfl

theorem c10_values (t : Fin 1000) : c10 m c (Proc.devRef .tc main_values) (ix1 t) = sc m c (pick m c t) := by
  refine (values_at (c9 m c) t).trans ?_
  rw [flat_eq]
  rfl

theorem c10_indices (t : Fin 1000) : c10 m c (Proc.devRef .tc main_indices) (ix1 t) = BitVec.ofNat 32 (pick m c t).val := by
  refine (indices_at (c9 m c) t).trans ?_
  rw [flat_eq]
  rfl

theorem c11_indices (t : Fin 1000) : c11 m c (Proc.devRef .tc main_indices) (ix1 t) = BitVec.ofNat 32 (pick m c t).val := by
  unfold c11
  rw [after_of_writes_sub hostOps0_11 _ hostOps0_11_writes (by decide +kernel)]
  exact c10_indices m c t

theorem c11_classes (t : Fin 1000) : c11 m c (Proc.devRef .tc main_v112) (ix1 t) = BitVec.ofNat 32 ((pick m c t).val % 80) :=
  v112_at (c10 m c) t _ (pick m c t).isLt (c10_indices m c t) (c_at (c9 m c))

theorem c11_boxes : c11 m c (Proc.devRef .tc main_v107) = c8 m c (Proc.devRef .tc main_v107) := by
  unfold c11 c10 c9
  rw [after_of_writes_sub hostOps0_11 _ hostOps0_11_writes (by decide +kernel), after_of_writes_sub hostOps0_10 _ hostOps0_10_writes (by decide +kernel),
    after_of_writes_sub hostOps0_9 _ hostOps0_9_writes (by decide +kernel)]

/-- The picked boxes are the formula's. -/
theorem picked_eq (t : Fin 1000) (q : Fin 4) : picked (c11 m c) (ix2 t q) = boxOf (arg1 m c) (arg2 m c) (pick m c t) q := by
  rw [picked_at _ t q _ (c11_indices m c t), c11_boxes]
  exact v107_all (c0 m c) _ _ q

/-- The loop's overlaps are the formula's. -/
theorem overlaps (k t : Fin 1000) : c14 m c (Proc.devRef .tc main_v182_1) (ix2 k t) =
    iou (movedOf (arg1 m c) (arg2 m c) (pick m c k)) (movedOf (arg1 m c) (arg2 m c) (pick m c t)) := by
  refine ((v182_1_at (c13 m c) k t).trans (v178_at (c11 m c) k t)).trans ?_
  rw [c11_classes, c11_classes]
  simp only [picked_eq]
  rfl

theorem c13_values (t : Fin 1000) : c13 m c (Proc.devRef .tc main_values) (ix1 t) = sc m c (pick m c t) := by
  unfold c13 c12 c11
  rw [after_of_writes_sub hostOps0_13 _ hostOps0_13_writes (by decide +kernel), after_of_writes_sub hostOps0_12 _ hostOps0_12_writes (by decide +kernel),
    after_of_writes_sub hostOps0_11 _ hostOps0_11_writes (by decide +kernel)]
  exact c10_values m c t

/-- The bits the loop leaves: the entries alive after every round. -/
theorem kept (t : Fin 1000) : exitContents m c (Proc.devRef .tc main_v182_4) (ix1 t) =
    bit (alive (hits (arg1 m c) (arg2 m c) (pick m c)) (fun t => (cst 0#32 : EReal) < sc m c (pick m c t)) 1000 t) := by
  unfold exitContents
  rw [cond_keeps _ main_v182_4 (by decide),
    show atTrip condOps bodyI (entryContents preI m) 1000 c (Proc.devRef .tc main_v182_4) = _ from atK_agree m c 1000 main_v182_4 (by decide), entry_eq]
  exact (loop_at (c14 m c) _ (fun t => (cst 0#32 : EReal) < sc m c (pick m c t)) (fun t => (start_at (c13 m c) t).1) (overlaps m c)
    (fun t => (start_at (c13 m c) t).2.1) (start_at (c13 m c) 0).2.2.1
    (fun t => by rw [c14, (start_at (c13 m c) t).2.2.2, c13_values]) 1000 le_rfl).1 t

theorem exit_values (t : Fin 1000) : exitContents m c (Proc.devRef .tc main_values) (ix1 t) = sc m c (pick m c t) := by
  rw [exit_of m c main_values (by decide +kernel), entry_eq, c14, after_of_writes_sub hostOps0_14 _ hostOps0_14_writes (by decide +kernel)]
  exact c13_values m c t

/-- The contents before the last stretch. -/
abbrev c16 : Valuation τ sig (Elt Ideal) := afterL [hostOps0_15, hostOps0_16] (exitContents m c)

/-- The scores of the last selection are the formula's. -/
theorem last_eq : last (c16 m c) = finals (arg1 m c) (arg2 m c) (pick m c) (fun t => sc m c (pick m c t)) := by
  funext t
  refine (v183_at (exitContents m c) t).trans ?_
  rw [kept, exit_values]
  classical
  unfold finals bit
  by_cases h : alive (hits (arg1 m c) (arg2 m c) (pick m c)) (fun t => (cst 0#32 : EReal) < sc m c (pick m c t)) 1000 t
  · rw [if_pos h, decide_eq_true h]; rfl
  · rw [if_neg h, decide_eq_false h]; rfl

theorem c16_boxes (t : Fin 1000) (q : Fin 4) :
    c16 m c (Proc.devRef .tc main_v120) (ix2 t q) = boxOf (arg1 m c) (arg2 m c) (pick m c t) q := by
  simp only [c16, afterL_cons, afterL_nil]
  rw [after_of_writes_sub hostOps0_16 _ post16_writes (by decide +kernel), after_of_writes_sub hostOps0_15 _ post15_writes (by decide +kernel),
    exit_of m c main_v120 (by decide +kernel), entry_eq, c14, after_of_writes_sub hostOps0_14 _ hostOps0_14_writes (by decide +kernel),
    c13, after_of_writes_sub hostOps0_13 _ hostOps0_13_writes (by decide +kernel), c12, v120_at]
  exact picked_eq m c t q

theorem c16_classes (t : Fin 1000) : c16 m c (Proc.devRef .tc main_v112) (ix1 t) = BitVec.ofNat 32 ((pick m c t).val % 80) := by
  simp only [c16, afterL_cons, afterL_nil]
  rw [after_of_writes_sub hostOps0_16 _ post16_writes (by decide +kernel), after_of_writes_sub hostOps0_15 _ post15_writes (by decide +kernel),
    exit_of m c main_v112 (by decide +kernel), entry_eq, c14, after_of_writes_sub hostOps0_14 _ hostOps0_14_writes (by decide +kernel),
    c13, after_of_writes_sub hostOps0_13 _ hostOps0_13_writes (by decide +kernel), c12, after_of_writes_sub hostOps0_12 _ hostOps0_12_writes (by decide +kernel)]
  exact c11_classes m c t

/-- The reference's result is the formula of its three arguments. -/
theorem result_at (n : Fin 100) (q : Fin 6) :
    result m c (ix2 n q) = detect (arg1 m c) (arg2 m c) (pick m c) (fun t => sc m c (pick m c t)) n q := by
  refine (v203_at (c16 m c) _ (c16_classes m c) n q).trans ?_
  rw [last_eq]
  exact congrArg (fun B => tail B _ _ n q) (funext fun t => funext fun q => c16_boxes m c t q)

end Cert.ReferenceIdeal.Value

end
-- ==== Proof.Equal.lean ====
module

public import proofs.«01_k».proof.Proof.KerRun
public import proofs.«01_k».proof.Proof.KerValue
public import proofs.«01_k».proof.Proof.RefValue

@[expose] public section

noncomputable section

/-! Both programs' results are the same detections. -/

namespace Cert.Equal

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (ρ : Dev Cert.KernelIdeal.nD → PrngReg) (c : Dev Cert.KernelIdeal.nD)

/-- From equal arguments the reference's result is the kernel's. -/
theorem results
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Value.result m' c
      = Cert.KernelIdeal.Gen.W10 m ρ c (Proc.devRef .tc Cert.KernelIdeal.main_v48) := by
  have e0 : Cert.ReferenceIdeal.Value.arg0 m' c = Cert.KernelIdeal.Value.arg0 m c := funext fun b => funext fun i => congrFun h0 (ix2 b i)
  have e1 : Cert.ReferenceIdeal.Value.arg1 m' c = Cert.KernelIdeal.Value.arg1 m c := funext fun b => funext fun i => congrFun h1 (ix2 b i)
  have e2 : Cert.ReferenceIdeal.Value.arg2 m' c = Cert.KernelIdeal.Value.arg2 m c := funext fun b => funext fun i => congrFun h2 (ix2 b i)
  have es : Cert.ReferenceIdeal.Value.sc m' c = Cert.KernelIdeal.Value.sc m c := by
    unfold Cert.ReferenceIdeal.Value.sc Cert.KernelIdeal.Value.sc
    rw [e0]
  have ep : Cert.ReferenceIdeal.Value.pick m' c = Cert.KernelIdeal.Value.pick m c := by
    funext t
    unfold Cert.ReferenceIdeal.Value.pick Cert.KernelIdeal.Value.pick
    rw [es]
  funext i
  obtain ⟨n, q, rfl⟩ : ∃ (n : Fin 100) (q : Fin 6), i = ix2 n q := ⟨i 0, i 1, ValueIdx.eq_ix2 i⟩
  refine (Cert.ReferenceIdeal.Value.result_at m' c n q).trans ?_
  rw [e1, e2, es, ep]
  exact (Cert.KernelIdeal.Value.kernel_at m ρ c n q).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono (fun _ h => ⟨fun c => (h.1 c).2, h.2⟩) (Cert.ReferenceIdeal.Value.run m ρ),
  trivial,
  fun m g m' g' _ hm => ⟨fun c => Cert.KernelIdeal.Gen.W10 m g c (Proc.devRef .tc Cert.KernelIdeal.main_v48),
    (θ_run Cert.KernelIdeal.defs _ _).mono (fun _ h c => h.1 c) (Cert.KernelIdeal.Value.run m g),
    (θ_run Cert.ReferenceIdeal.defs _ _).mono (fun _ h c =>
      ⟨(h.1 c).1.trans (Cert.Equal.results m m' g c (hm c).1 (hm c).2.1 (hm c).2.2), (h.1 c).2⟩) (Cert.ReferenceIdeal.Value.run m' g')⟩⟩

end Cert.Proof

end
